-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩
abbrev S1024x32x128 : Shape := ⟨3, ![1024, 32, 128]⟩
abbrev S1024x8x128 : Shape := ⟨3, ![1024, 8, 128]⟩
abbrev S8x128x1024 : Shape := ⟨3, ![8, 128, 1024]⟩
abbrev S8x1024x128 : Shape := ⟨3, ![8, 1024, 128]⟩
abbrev S3x256x1024 : Shape := ⟨3, ![3, 256, 1024]⟩
abbrev S256x1024 : Shape := ⟨2, ![256, 1024]⟩
abbrev S3 : Shape := ⟨1, ![3]⟩
abbrev S256x128 : Shape := ⟨2, ![256, 128]⟩
abbrev S1x128x1024 : Shape := ⟨3, ![1, 128, 1024]⟩
abbrev S128x1024 : Shape := ⟨2, ![128, 1024]⟩
abbrev S256 : Shape := ⟨1, ![256]⟩
abbrev S256x1 : Shape := ⟨2, ![256, 1]⟩
abbrev S1x1024x128 : Shape := ⟨3, ![1, 1024, 128]⟩
abbrev S1024x128 : Shape := ⟨2, ![1024, 128]⟩
abbrev S1x256x1024 : Shape := ⟨3, ![1, 256, 1024]⟩
abbrev S1 : Shape := ⟨1, ![1]⟩

abbrev nBuf : Space → Nat
  | .hbm => 38
  | .vmem => 11
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024x32x128, .bf16⟩
  | .hbm, ⟨3, _⟩ => ⟨S1x1024x32x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .bf16⟩
  | .hbm, ⟨12, _⟩ => ⟨S1024x32x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .bf16⟩
  | .hbm, ⟨23, _⟩ => ⟨S1024x32x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .bf16⟩
  | .hbm, ⟨34, _⟩ => ⟨S8x128x1024, .bf16⟩
  | .hbm, ⟨35, _⟩ => ⟨S8x1024x128, .bf16⟩
  | .hbm, ⟨36, _⟩ => ⟨S1024x1024, .f32⟩
  | .hbm, ⟨37, _⟩ => ⟨S1x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S8x128x1024, .bf16⟩
  | .local _ .vmem, ⟨3, _⟩ => ⟨S8x1024x128, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S3x256x1024, .bf16⟩
  | .local _ .vmem, ⟨8, _⟩ => ⟨S3x256x1024, .bf16⟩
  | .local _ .vmem, ⟨9, _⟩ => ⟨S256x1024, .bf16⟩
  | .local _ .vmem, ⟨10, _⟩ => ⟨S3x256x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v96 : BitVec 32 := Scalar.addi v2 c1_i32_35
  let c4_i32_36 : BitVec 32 := 4#32
  let v97 : BitVec 32 := Scalar.remsi v96 c4_i32_36
  let c256_i32 : BitVec 32 := 256#32
  let v98 : BitVec 32 := Scalar.muli v97 c256_i32
  let v99 : Index := Scalar.indexCast v98
  let c0_37 : Index := 0#32
  ![v99.toNat, 0]
def k0_dev4 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_35 : BitVec 32 := 1#32
  let v96 : BitVec 32 := Scalar.addi v2 c1_i32_35
  let c4_i32_36 : BitVec 32 := 4#32
  let v97 : BitVec 32 := Scalar.remsi v96 c4_i32_36
  let c1_i32_127 : BitVec 32 := 1#32
  let v270 : BitVec 32 := Scalar.muli v97 c1_i32_127
  let v271 : BitVec 32 := Scalar.addi c0_i32_128 v270
  v271.toNat
def k0_dev5 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_133 : BitVec 32 := 2#32
  let v280 : BitVec 32 := Scalar.addi v2 c2_i32_133
  let c4_i32_134 : BitVec 32 := 4#32
  let v281 : BitVec 32 := Scalar.remsi v280 c4_i32_134
  let c1_i32_232 : BitVec 32 := 1#32
  let v454 : BitVec 32 := Scalar.muli v281 c1_i32_232
  let v455 : BitVec 32 := Scalar.addi c0_i32_233 v454
  v455.toNat
def k0_dev6 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_238 : BitVec 32 := 3#32
  let v464 : BitVec 32 := Scalar.addi v2 c3_i32_238
  let c4_i32_239 : BitVec 32 := 4#32
  let v465 : BitVec 32 := Scalar.remsi v464 c4_i32_239
  let c1_i32_337 : BitVec 32 := 1#32
  let v638 : BitVec 32 := Scalar.muli v465 c1_i32_337
  let v639 : BitVec 32 := Scalar.addi c0_i32_338 v638
  v639.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_343 : BitVec 32 := 256#32
  let v648 : BitVec 32 := Scalar.muli v2 c256_i32_343
  let v649 : Index := Scalar.indexCast v648
  let c0_344 : Index := 0#32
  ![v649.toNat, 0]
def k0_dev7 (d0 : Dev nD) : Nat :=
  let c0_i32_482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_476 : BitVec 32 := 1#32
  let v859 : BitVec 32 := Scalar.addi v2 c1_i32_476
  let c4_i32_477 : BitVec 32 := 4#32
  let v860 : BitVec 32 := Scalar.remsi v859 c4_i32_477
  let c1_i32_481 : BitVec 32 := 1#32
  let v861 : BitVec 32 := Scalar.muli v860 c1_i32_481
  let v862 : BitVec 32 := Scalar.addi c0_i32_482 v861
  v862.toNat
def k0_dev8 (d0 : Dev nD) : Nat :=
  let c0_i32_491 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_485 : BitVec 32 := 2#32
  let v869 : BitVec 32 := Scalar.addi v2 c2_i32_485
  let c4_i32_486 : BitVec 32 := 4#32
  let v870 : BitVec 32 := Scalar.remsi v869 c4_i32_486
  let c1_i32_490 : BitVec 32 := 1#32
  let v871 : BitVec 32 := Scalar.muli v870 c1_i32_490
  let v872 : BitVec 32 := Scalar.addi c0_i32_491 v871
  v872.toNat
def k0_dev9 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_494 : BitVec 32 := 3#32
  let v879 : BitVec 32 := Scalar.addi v2 c3_i32_494
  let c4_i32_495 : BitVec 32 := 4#32
  let v880 : BitVec 32 := Scalar.remsi v879 c4_i32_495
  let c1_i32_499 : BitVec 32 := 1#32
  let v881 : BitVec 32 := Scalar.muli v880 c1_i32_499
  let v882 : BitVec 32 := Scalar.addi c0_i32_500 v881
  v882.toNat
def k0_off3 (d0 : Dev nD) (c0_i32_505 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_503 : BitVec 32 := 4#32
  let v889 : BitVec 32 := Scalar.addi v2 c4_i32_503
  let c1_i32_504 : BitVec 32 := 1#32
  let v890 : BitVec 32 := Scalar.subi v889 c1_i32_504
  let v891 : BitVec 32 := Scalar.subi v890 c0_i32_505
  let c4_i32_506 : BitVec 32 := 4#32
  let v892 : BitVec 32 := Scalar.remsi v891 c4_i32_506
  let c256_i32_517 : BitVec 32 := 256#32
  let v902 : BitVec 32 := Scalar.muli v892 c256_i32_517
  let v903 : Index := Scalar.indexCast v902
  let c0_518 : Index := 0#32
  ![v903.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x1024x4096 : Shape := ⟨3, ![1, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1x32x1024x1024 : Shape := ⟨4, ![1, 32, 1024, 1024]⟩
abbrev S1x1x1024x1024 : Shape := ⟨4, ![1, 1, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 128
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x4096, .bf16⟩
  | .hbm, ⟨2, _⟩ => ⟨S1x1024x32x128, .bf16⟩
  | .hbm, ⟨3, _⟩ => ⟨S1x1024x32x128, .bf16⟩
  | .hbm, ⟨4, _⟩ => ⟨S4096x1024, .bf16⟩
  | .hbm, ⟨5, _⟩ => ⟨S1x1024x1024, .f32⟩
  | .hbm, ⟨6, _⟩ => ⟨S1024x4096, .f32⟩
  | .hbm, ⟨7, _⟩ => ⟨S1x1024x32x128, .f32⟩
  | .hbm, ⟨8, _⟩ => ⟨S1x1024x32x128, .f32⟩
  | .hbm, ⟨9, _⟩ => ⟨S4096x1024, .f32⟩
  | .hbm, ⟨10, _⟩ => ⟨S1x1024x4096, .f32⟩
  | .hbm, ⟨11, _⟩ => ⟨S1x1024x32x128, .f32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i32⟩
  | .hbm, ⟨22, _⟩ => ⟨S1024, .i32⟩
  | .hbm, ⟨23, _⟩ => ⟨S_, .i32⟩
  | .hbm, ⟨24, _⟩ => ⟨S1024, .i32⟩
  | .hbm, ⟨25, _⟩ => ⟨S1024, .i1⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024, .i32⟩
  | .hbm, ⟨33, _⟩ => ⟨S_, .i32⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i32⟩
  | .hbm, ⟨42, _⟩ => ⟨S1024, .i32⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S1024, .i1⟩
  | .hbm, ⟨47, _⟩ => ⟨S_, .i32⟩
  | .hbm, ⟨48, _⟩ => ⟨S1024, .i32⟩
  | .hbm, ⟨49, _⟩ => ⟨S1024, .i32⟩
  | .hbm, ⟨50, _⟩ => ⟨S1024, .i32⟩
  | .hbm, ⟨51, _⟩ => ⟨S1x1024, .i32⟩
  | .hbm, ⟨52, _⟩ => ⟨S1024x1024, .i32⟩
  | .hbm, ⟨53, _⟩ => ⟨S1024x1024, .i32⟩
  | .hbm, ⟨54, _⟩ => ⟨S1024x1024, .i1⟩
  | .hbm, ⟨55, _⟩ => ⟨S_, .i32⟩
  | .hbm, ⟨56, _⟩ => ⟨S1x1024, .i32⟩
  | .hbm, ⟨57, _⟩ => ⟨S1x1024, .i1⟩
  | .hbm, ⟨58, _⟩ => ⟨S1024x1024, .i1⟩
  | .hbm, ⟨59, _⟩ => ⟨S1024x1024, .i1⟩
  | .hbm, ⟨60, _⟩ => ⟨S1024x1024, .i32⟩
  | .hbm, ⟨61, _⟩ => ⟨S1024x1024, .i32⟩
  | .hbm, ⟨62, _⟩ => ⟨S1024x1024, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S1024x1024, .i32⟩
  | .hbm, ⟨70, _⟩ => ⟨S1024x1024, .i32⟩
  | .hbm, ⟨71, _⟩ => ⟨S_, .i32⟩
  | .hbm, ⟨72, _⟩ => ⟨S1024x1024, .i32⟩
  | .hbm, ⟨73, _⟩ => ⟨S1024x1024, .i1⟩
  | .hbm, ⟨74, _⟩ => ⟨S_, .i32⟩
  | .hbm, ⟨75, _⟩ => ⟨S1024x1024, .i32⟩
  | .hbm, ⟨76, _⟩ => ⟨S1024x1024, .i1⟩
  | .hbm, ⟨77, _⟩ => ⟨S_, .i32⟩
  | .hbm, ⟨78, _⟩ => ⟨S_, .i1⟩
  | .hbm, ⟨79, _⟩ => ⟨S1024x1024, .i1⟩
  | .hbm, ⟨80, _⟩ => ⟨S1024x1024, .i1⟩
  | .hbm, ⟨81, _⟩ => ⟨S1024x1024, .i1⟩
  | .hbm, ⟨82, _⟩ => ⟨S1024x1024, .i32⟩
  | .hbm, ⟨83, _⟩ => ⟨S1024x1024, .i32⟩
  | .hbm, ⟨84, _⟩ => ⟨S1024x1024, .i32⟩
  | .hbm, ⟨85, _⟩ => ⟨S_, .i32⟩
  | .hbm, ⟨86, _⟩ => ⟨S1024x1024, .i32⟩
  | .hbm, ⟨87, _⟩ => ⟨S1024x1024, .i1⟩
  | .hbm, ⟨88, _⟩ => ⟨S1024x1024, .i1⟩
  | .hbm, ⟨89, _⟩ => ⟨S1x32x1024x1024, .f32⟩
  | .hbm, ⟨90, _⟩ => ⟨S_, .f32⟩
  | .hbm, ⟨91, _⟩ => ⟨S1x32x1024x1024, .f32⟩
  | .hbm, ⟨92, _⟩ => ⟨S1x32x1024x1024, .f32⟩
  | .hbm, ⟨93, _⟩ => ⟨S1x1x1024x1024, .i1⟩
  | .hbm, ⟨94, _⟩ => ⟨S_, .f32⟩
  | .hbm, ⟨95, _⟩ => ⟨S_, .f32⟩
  | .hbm, ⟨96, _⟩ => ⟨S1x32x1024x1024, .i1⟩
  | .hbm, ⟨97, _⟩ => ⟨S1x32x1024x1024, .f32⟩
  | .hbm, ⟨98, _⟩ => ⟨S1x32x1024x1024, .f32⟩
  | .hbm, ⟨99, _⟩ => ⟨S_, .f32⟩
  | .hbm, ⟨100, _⟩ => ⟨S1x32x1024, .f32⟩
  | .hbm, ⟨101, _⟩ => ⟨S1x32x1024x1, .f32⟩
  | .hbm, ⟨102, _⟩ => ⟨S1x32x1024x1024, .f32⟩
  | .hbm, ⟨103, _⟩ => ⟨S1x32x1024x1024, .f32⟩
  | .hbm, ⟨104, _⟩ => ⟨S1x32x1024x1024, .f32⟩
  | .hbm, ⟨105, _⟩ => ⟨S_, .i1⟩
  | .hbm, ⟨106, _⟩ => ⟨S1024, .i1⟩
  | .hbm, ⟨107, _⟩ => ⟨S1x1x1024x1, .i1⟩
  | .hbm, ⟨108, _⟩ => ⟨S_, .f32⟩
  | .hbm, ⟨109, _⟩ => ⟨S1x32x1024, .f32⟩
  | .hbm, ⟨110, _⟩ => ⟨S1x32x1024x1, .f32⟩
  | .hbm, ⟨111, _⟩ => ⟨S_, .f32⟩
  | .hbm, ⟨112, _⟩ => ⟨S_, .f32⟩
  | .hbm, ⟨113, _⟩ => ⟨S1x32x1024x1, .i1⟩
  | .hbm, ⟨114, _⟩ => ⟨S1x32x1024x1, .f32⟩
  | .hbm, ⟨115, _⟩ => ⟨S1x32x1024x1, .f32⟩
  | .hbm, ⟨116, _⟩ => ⟨S1x32x1024x1024, .f32⟩
  | .hbm, ⟨117, _⟩ => ⟨S1x32x1024x1024, .f32⟩
  | .hbm, ⟨118, _⟩ => ⟨S1x1x1024x1, .i1⟩
  | .hbm, ⟨119, _⟩ => ⟨S_, .f32⟩
  | .hbm, ⟨120, _⟩ => ⟨S_, .f32⟩
  | .hbm, ⟨121, _⟩ => ⟨S1x32x1024x1024, .i1⟩
  | .hbm, ⟨122, _⟩ => ⟨S1x32x1024x1024, .f32⟩
  | .hbm, ⟨123, _⟩ => ⟨S1x32x1024x1024, .f32⟩
  | .hbm, ⟨124, _⟩ => ⟨S1x32x128x1024, .f32⟩
  | .hbm, ⟨125, _⟩ => ⟨S1x1024x32x128, .f32⟩
  | .hbm, ⟨126, _⟩ => ⟨S1x1024x4096, .f32⟩
  | .hbm, ⟨127, _⟩ => ⟨S1x1024x1024, .f32⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.KernelIdeal.Chunk.lean ====
/-
  The values one device computes, written once.

  A device holds eight heads. For a block of 256 rows it forms the queries, attends with each head, joins the eight
  contexts and multiplies by its rows of the output weights: the device's PART of those rows. The printed body spells
  this four times, cut into payloads at different places; here it is one function of the rows, and each of the four
  spellings is that function.
-/
module

public import proofs.«01_k».proof.Proof.Gen.KernelIdeal.Skeleton
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.SL.Sem

variable {F : FTy → Type} [FloatOps F] [Named F]

/-- What one device's launch reads: the activations, its columns of the query weights, its transposed keys, its values and
    its rows of the output weights. -/
structure Ins (F : FTy → Type) [FloatOps F] where
  x : Vec F S1024x1024 .bf16
  wq : Vec F S1024x1024 .bf16
  kt : Vec F S8x128x1024 .bf16
  v : Vec F S8x1024x128 .bf16
  wo : Vec F S1024x1024 .bf16

/-- The 256 rows of a 1024-row array that start at row `256 * r`. -/
theorem rows_inb (r : Fin 4) : ∀ a, (![256 * r.val, 0] : Fin 2 → ℕ) a + S256x1024.size a ≤ S1024x1024.size a := by
  revert r; decide

/-- Block `r` of 256 rows. -/
def rowsOf {e : EltTy} (r : Fin 4) (A : Vec F S1024x1024 e) : Vec F S256x1024 e :=
  fun i => A ((Rect.unit (s := S1024x1024) ![256 * r.val, 0] S256x1024.size (rows_inb r)).emb i)

theorem ktHead_inb (h : Fin 8) : ∀ a, (![h.val, 0, 0] : Fin 3 → ℕ) a + S1x128x1024.size a ≤ S8x128x1024.size a := by
  revert h; decide
theorem vHead_inb (h : Fin 8) : ∀ a, (![h.val, 0, 0] : Fin 3 → ℕ) a + S1x1024x128.size a ≤ S8x1024x128.size a := by
  revert h; decide

/-- Head `h` of the transposed keys. -/
def ktHead (h : Fin 8) (A : Vec F S8x128x1024 .bf16) : Vec F S1x128x1024 .bf16 :=
  fun i => A ((Rect.unit (s := S8x128x1024) ![h.val, 0, 0] S1x128x1024.size (ktHead_inb h)).emb i)

/-- Head `h` of the values. -/
def vHead (h : Fin 8) (A : Vec F S8x1024x128 .bf16) : Vec F S1x1024x128 .bf16 :=
  fun i => A ((Rect.unit (s := S8x1024x128) ![h.val, 0, 0] S1x1024x128.size (vHead_inb h)).emb i)

/-- The mask's bias: zero at the positions kept, the mask's named constant elsewhere. -/
def bias : FVec F S1024x1024 .f32 :=
  k0_pay10 (F := F) (k0_pay6 (iota .tc S1024x1024 32 [0] iota_S1024x1024_d0_w32) k0_pay1 k0_pay2 k0_pay3)
    (Scalar.select (Scalar.cmpi .eq 3#32 0#32) 1#32 3#32)
    (k0_pay7 (iota .tc S1024x1024 32 [0] iota_S1024x1024_d0_w32) k0_pay1 k0_pay2 k0_pay3)
    (k0_pay8 (iota .tc S1024x1024 32 [0] iota_S1024x1024_d0_w32) k0_pay1 k0_pay2 k0_pay3)
    (k0_pay9 (iota .tc S1024x1024 32 [0] iota_S1024x1024_d0_w32) k0_pay1 k0_pay2 k0_pay3)

/-- The queries of 256 rows: their product with the query weights, scaled, rounded. -/
def queries (xr : Vec F S256x1024 .bf16) (wq : Vec F S1024x1024 .bf16) : FVec F S256x1024 .bf16 :=
  truncf .bf16
    (mulf (matmul dot_S256x1024_S1024x1024_S256x1024_1_0_0_1_n_n none
        (shapeCast S256x1024 xr shapeCasts_S256x1024_S256x1024 : FVec F S256x1024 .bf16)
        (shapeCast S1024x1024 wq shapeCasts_S1024x1024_S1024x1024 : FVec F S1024x1024 .bf16) (constant S256x1024 .f32 0x00000000#32))
      (broadcast S256x1024 (Scalar.ofBits .f32 0x3DB504F3#32 : F .f32)))
    bitsLt_bf16_f32

/-- One head's scores with the bias added. -/
def scores (qh : FVec F S256x128 .bf16) (b : Vec F S256x1024 .f32) (k : Vec F S1x128x1024 .bf16) : FVec F S256x1024 .f32 :=
  addf (matmul dot_S256x128_S128x1024_S256x1024_1_0_0_1_n_n none qh
    (shapeCast S128x1024 k shapeCasts_S1x128x1024_S128x1024 : FVec F S128x1024 .bf16) (constant S256x1024 .f32 0x00000000#32)) b

/-- The exponentials of the scores less their row's maximum. -/
def expsOf (s : FVec F S256x1024 .f32) : FVec F S256x1024 .f32 :=
  exp (subf s (broadcastTo S256x1024
    (shapeCast S256x1 (multiReduction .maximumf [1] S256 s 0xFF800000#32 reduces_S256x1024_S256 (.inl rfl) rfl : FVec F S256 .f32) shapeCasts_S256_S256x1)
    broadcasts_S256x1_S256x1024))

/-- The weights: each exponential over its row's sum, rounded. -/
def weightsOf (e : FVec F S256x1024 .f32) : FVec F S256x1024 .bf16 :=
  truncf .bf16 (divf e (broadcastTo S256x1024
    (shapeCast S256x1 (multiReduction .add [1] S256 e 0x00000000#32 reduces_S256x1024_S256 (.inl rfl) rfl : FVec F S256 .f32) shapeCasts_S256_S256x1)
    broadcasts_S256x1_S256x1024)) bitsLt_bf16_f32

/-- One head's context: the weights times the head's values, rounded. -/
def headCtx (qh : FVec F S256x128 .bf16) (b : Vec F S256x1024 .f32) (k : Vec F S1x128x1024 .bf16) (v : Vec F S1x1024x128 .bf16) :
    FVec F S256x128 .bf16 :=
  truncf .bf16 (matmul dot_S256x1024_S1024x128_S256x128_1_0_0_1_n_n none (weightsOf (expsOf (scores qh b k)))
    (shapeCast S1024x128 v shapeCasts_S1x1024x128_S1024x128 : FVec F S1024x128 .bf16) (constant S256x128 .f32 0x00000000#32)) bitsLt_bf16_f32

/-- The eight contexts side by side, times the device's rows of the output weights. -/
def chunk (q : FVec F S256x1024 .bf16) (b : Vec F S256x1024 .f32) (k : Fin 8 → Vec F S1x128x1024 .bf16) (v : Fin 8 → Vec F S1x1024x128 .bf16)
    (wo : Vec F S1024x1024 .bf16) : FVec F S256x1024 .f32 :=
  matmul dot_S256x1024_S1024x1024_S256x1024_1_0_0_1_n_n none
    (concatenate S256x1024 1
      [⟨S256x128, headCtx (extractStridedSlice S256x128 ![0, 0] q slices_S256x1024_o0_0_S256x128) b (k 0) (v 0)⟩,
       ⟨S256x128, headCtx (extractStridedSlice S256x128 ![0, 128] q slices_S256x1024_o0_128_S256x128) b (k 1) (v 1)⟩,
       ⟨S256x128, headCtx (extractStridedSlice S256x128 ![0, 256] q slices_S256x1024_o0_256_S256x128) b (k 2) (v 2)⟩,
       ⟨S256x128, headCtx (extractStridedSlice S256x128 ![0, 384] q slices_S256x1024_o0_384_S256x128) b (k 3) (v 3)⟩,
       ⟨S256x128, headCtx (extractStridedSlice S256x128 ![0, 512] q slices_S256x1024_o0_512_S256x128) b (k 4) (v 4)⟩,
       ⟨S256x128, headCtx (extractStridedSlice S256x128 ![0, 640] q slices_S256x1024_o0_640_S256x128) b (k 5) (v 5)⟩,
       ⟨S256x128, headCtx (extractStridedSlice S256x128 ![0, 768] q slices_S256x1024_o0_768_S256x128) b (k 6) (v 6)⟩,
       ⟨S256x128, headCtx (extractStridedSlice S256x128 ![0, 896] q slices_S256x1024_o0_896_S256x128) b (k 7) (v 7)⟩]
      concatenates_S256x128_S256x128_S256x128_S256x128_S256x128_S256x128_S256x128_S256x128_S256x1024_d1)
    (shapeCast S1024x1024 wo shapeCasts_S1024x1024_S1024x1024 : FVec F S1024x1024 .bf16) (constant S256x1024 .f32 0x00000000#32)

/-- The device's part of row block `r`. -/
def part (I : Ins F) (r : Fin 4) : FVec F S256x1024 .f32 :=
  chunk (queries (rowsOf r I.x) I.wq) (rowsOf r (bias : Vec F S1024x1024 .f32)) (fun h => ktHead h I.kt) (fun h => vHead h I.v) I.wo

/-- The part as it travels: rounded. -/
def sent (I : Ins F) (r : Fin 4) : FVec F S256x1024 .bf16 := truncf .bf16 (part I r) bitsLt_bf16_f32

/-- Device `nx j c`, the `j`-th after `c`, counting from one. -/
def nx (j : Fin 3) (c : Dev nD) : Dev nD := ⟨(c.val + j.val + 1) % 4, Nat.mod_lt _ (by decide)⟩
/-- Device `pv j c`, the one whose `j`-th next is `c`. -/
def pv (j : Fin 3) (c : Dev nD) : Dev nD := ⟨(c.val + 3 - j.val) % 4, Nat.mod_lt _ (by decide)⟩

theorem pv_nx : ∀ (j : Fin 3) (c : Dev nD), pv j (nx j c) = c := by decide
theorem nx_pv : ∀ (j : Fin 3) (c : Dev nD), nx j (pv j c) = c := by decide
theorem nx_ne : ∀ (j : Fin 3) (c : Dev nD), nx j c ≠ c := by decide
theorem nx_nx : ∀ (j : Fin 3) (c : Dev nD), nx (Fin.rev j) (nx j c) = c := by decide
theorem nx_rev : ∀ (j : Fin 3) (c : Dev nD), nx (Fin.rev j) c = pv j c := by decide

/-- The device `c`'s rows summed over the four devices: its own part, then the parts that travelled, in the order they are added. -/
def total (I : Dev nD → Ins F) (c : Dev nD) : FVec F S256x1024 .f32 :=
  addf (addf (addf (part (I c) c) (extf .f32 (sent (I (pv 0 c)) c) bitsLt_bf16_f32)) (extf .f32 (sent (I (pv 1 c)) c) bitsLt_bf16_f32))
    (extf .f32 (sent (I (pv 2 c)) c) bitsLt_bf16_f32)

/-- The sum as it travels: rounded. -/
def totalSent (I : Dev nD → Ins F) (c : Dev nD) : FVec F S256x1024 .bf16 := truncf .bf16 (total I c) bitsLt_bf16_f32

/-- What device `c` writes at row block `r`: its own rows as summed, every other as it arrived. -/
def outRows (I : Dev nD → Ins F) (c : Dev nD) (r : Dev nD) : FVec F S256x1024 .f32 :=
  if r = c then total I c else extf .f32 (totalSent I r) bitsLt_bf16_f32

/-- The block a row lies in and its place there. -/
def blockOf (i : S1024x1024.Idx) : Dev nD := ⟨(i 0).val / 256, by have : (i 0).val < 1024 := (i 0).isLt; show (i 0).val / 256 < 4; omega⟩
def placeOf (i : S1024x1024.Idx) : S256x1024.Idx
  | ⟨0, _⟩ => ⟨(i 0).val % 256, Nat.mod_lt _ (by decide)⟩
  | ⟨1, _⟩ => i 1

/-- The whole result on device `c`. -/
def outAt (I : Dev nD → Ins F) (c : Dev nD) : Vec F S1024x1024 .f32 := fun i => outRows I c (blockOf i) (placeOf i)

/-! ## The four spellings -/

section Spell
variable (x : Vec F S256x1024 .bf16) (b : Vec F S256x1024 .f32) (wq wo : Vec F S1024x1024 .bf16)
  (k : Fin 8 → Vec F S1x128x1024 .bf16) (v : Fin 8 → Vec F S1x1024x128 .bf16)

/-- The first block's spelling. -/
theorem spell_1 :
    k0_pay25 b (k0_pay11 x wq) (k0_pay14 (k0_pay12 x b wq (k 0)) (k0_pay13 x b wq (k 0)) (v 0)) (k0_pay15 b (k0_pay11 x wq) (k 1) (v 1))
      (k0_pay17 (k0_pay16 b (k0_pay11 x wq) (k 2)) (v 2)) (k0_pay18 b (k0_pay11 x wq) (k 3) (v 3))
      (k0_pay21 (k0_pay19 b (k0_pay11 x wq) (k 4)) (k0_pay20 b (k0_pay11 x wq) (k 4)) (v 4)) (k0_pay22 b (k0_pay11 x wq) (k 5) (v 5))
      (k0_pay23 b (k0_pay11 x wq) (k 6)) (k0_pay24 b (k0_pay11 x wq) (k 6)) (v 6) (k 7) (v 7) wo
    = shapeCast S1x256x1024 (truncf .bf16 (chunk (queries x wq) b k v wo) bitsLt_bf16_f32 : FVec F S256x1024 .bf16) shapeCasts_S256x1024_S1x256x1024 := rfl

/-- The second's. -/
theorem spell_2 :
    k0_pay38 b (k0_pay26 x wq) (k0_pay29 (k0_pay27 x b wq (k 0)) (k0_pay28 x b wq (k 0)) (v 0)) (k0_pay30 b (k0_pay26 x wq) (k 1) (v 1))
      (k0_pay32 (k0_pay31 b (k0_pay26 x wq) (k 2)) (v 2)) (k0_pay33 b (k0_pay26 x wq) (k 3) (v 3))
      (k0_pay35 (k0_pay34 b (k0_pay26 x wq) (k 4)) (v 4)) (k0_pay36 b (k0_pay26 x wq) (k 5) (v 5))
      (k0_pay37 b (k0_pay26 x wq) (k 6)) (v 6) (k 7) (v 7) wo
    = shapeCast S1x256x1024 (truncf .bf16 (chunk (queries x wq) b k v wo) bitsLt_bf16_f32 : FVec F S256x1024 .bf16) shapeCasts_S256x1024_S1x256x1024 := rfl

/-- The third's. -/
theorem spell_3 :
    k0_pay51 b (k0_pay41 (k0_pay40 x b wq (k 0) (v 0))) (k0_pay42 b (k0_pay39 x wq) (k 1) (v 1)) (k0_pay43 b (k0_pay39 x wq) (k 2) (v 2))
      (k0_pay45 b (k0_pay44 (k0_pay39 x wq)) (k 3) (v 3)) (k0_pay46 b (k0_pay39 x wq) (k 4) (v 4))
      (k0_pay48 b (k0_pay47 (k0_pay39 x wq)) (k 5) (v 5)) (k0_pay49 b (k0_pay39 x wq) (k 6) (v 6)) (k0_pay50 (k0_pay39 x wq)) (k 7) (v 7) wo
    = shapeCast S1x256x1024 (truncf .bf16 (chunk (queries x wq) b k v wo) bitsLt_bf16_f32 : FVec F S256x1024 .bf16) shapeCasts_S256x1024_S1x256x1024 := rfl

/-- The own block's, with the first arrived part added. -/
theorem spell_own (r : Vec F S1x256x1024 .bf16) :
    k0_pay66 (k0_pay53 x b wq (k 0) (v 0)) (k0_pay56 (k0_pay54 x b wq (k 1)) (k0_pay55 x b wq (k 1)) (v 1)) (k0_pay57 b (k0_pay52 x wq) (k 2) (v 2))
      (k0_pay59 (k0_pay58 b (k0_pay52 x wq) (k 3)) (v 3)) (k0_pay60 b (k0_pay52 x wq) (k 4) (v 4))
      (k0_pay62 (k0_pay61 b (k0_pay52 x wq) (k 5)) (v 5)) (k0_pay63 b (k0_pay52 x wq) (k 6) (v 6))
      (k0_pay64 b (k0_pay52 x wq) (k 7)) (k0_pay65 b (k0_pay52 x wq) (k 7)) (v 7) wo r
    = addf (chunk (queries x wq) b k v wo)
        (extf .f32 (shapeCast S256x1024 r shapeCasts_S1x256x1024_S256x1024 : FVec F S256x1024 .bf16) bitsLt_bf16_f32) := rfl

end Spell

end Cert.KernelIdeal.Hand

end
-- ==== Proof.KernelIdeal.Sched.lean ====
/-
  The protocol between the four devices, as a schedule of duties on semaphore cells.

  Every device has a barrier cell and twelve copy cells, `cell k j c`: kind 0 the departure and kind 1 the arrival of the
  `j`-th copy of parts, kind 2 the departure and kind 3 the arrival of the `j`-th copy of sums. Each cell is used for one
  round. A barrier signal hands over the two slots the signalled device may then write; an arrival hands over a slot with
  what the copy wrote.
-/
module

public import proofs.«01_k».proof.Proof.KernelIdeal.Chunk
public import Idealize.ShloMosaic.Lib.Rounds
public import Idealize.ShloMosaic.Lib.Memref
public import Idealize.ShloMosaic.Lib.Pipeline.Regions
public import Idealize.ShloMosaic.Lib.Pipeline.RegionTalk
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources beside the memory: the staging copies' rounds and this protocol's, whose duties are named by three. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Buffers, semaphores, cells -/

abbrev biasM : Memref sig .tc .vmem S1024x1024 .f32 := Memref.whole cc0_scratch0
/-- The parts about to leave, three slots; the parts arrived, three slots; the sum about to leave; the sums arrived. -/
abbrev partOut : Memref sig .tc .vmem S3x256x1024 .bf16 := Memref.whole cc0_scratch1
abbrev partIn : Memref sig .tc .vmem S3x256x1024 .bf16 := Memref.whole cc0_scratch2
abbrev sumOut : Memref sig .tc .vmem S256x1024 .bf16 := Memref.whole cc0_scratch3
abbrev sumIn : Memref sig .tc .vmem S3x256x1024 .bf16 := Memref.whole cc0_scratch4

theorem slot_inb (j : Fin 3) : ∀ a, (![j.val, 0, 0] : Fin 3 → ℕ) a + S1x256x1024.size a ≤ S3x256x1024.size a := by
  revert j; decide

/-- Slot `j` as a copy sees it. -/
abbrev slot (b : Memref sig .tc .vmem S3x256x1024 .bf16) (j : Fin 3) : Memref sig .tc .vmem S256x1024 .bf16 :=
  (b.slice (Rect.unit (s := S3x256x1024) ![j.val, 0, 0] S1x256x1024.size (slot_inb j)) (fun _ => rfl)).squeeze S256x1024
    squeezes_S1x256x1024_S256x1024

/-- The copy semaphores: kind `k`, copy `j`. -/
abbrev csem (k : Fin 4) (j : Fin 3) : DmaSem sig := ⟨6 + 3 * k.val + j.val, by have := k.isLt; have := j.isLt; show _ < 18; omega⟩
abbrev barS : Sem sig := (SemArray.scalar (sig.barrier 0 rfl) : Sems sig S_).sem

abbrev barC (c : Dev nD) : GSem nD τ sig := ((c : Thread nD τ), .reg barS)
abbrev cell (k : Fin 4) (j : Fin 3) (c : Dev nD) : GSem nD τ sig := ((c : Thread nD τ), .dma (csem k j))

/-- The semaphores the kernel itself uses: the twelve of the copies. -/
abbrev osem : Fin 4 × Fin 3 → SemLoc sig := fun kj => .dma (csem kj.1 kj.2)

/-- The credit of a copy: every copy moves a block of 256 rows. -/
abbrev N : ℕ := (slot partIn 0).view.dmaCredit
theorem N_pos : 0 < N := View.dmaCredit_pos _ (by decide)

theorem credit_slot (b : Memref sig .tc .vmem S3x256x1024 .bf16) (j : Fin 3) : (slot b j).view.dmaCredit = N := rfl
theorem credit_sumOut : (sumOut : Memref sig .tc .vmem S256x1024 .bf16).view.dmaCredit = N := rfl

/-- What a semaphore is to the protocol. -/
inductive Kind
  | bar
  | copy (k : Fin 4) (j : Fin 3)
  | other

def kind : SemLoc sig → Kind
  | .reg s => if s = barS then .bar else .other
  | .dma s =>
    if 6 ≤ s.val then .copy ⟨(s.val - 6) / 3 % 4, Nat.mod_lt _ (by decide)⟩ ⟨(s.val - 6) % 3, Nat.mod_lt _ (by decide)⟩ else .other

theorem kind_bar : kind (.reg barS) = .bar := by
  show (if barS = barS then Kind.bar else Kind.other) = Kind.bar
  exact if_pos rfl
theorem kind_copy (k : Fin 4) (j : Fin 3) : kind (.dma (csem k j)) = .copy k j := by
  refine (if_pos (by show 6 ≤ 6 + 3 * k.val + j.val; omega)).trans ?_
  have hk := k.isLt; have hj := j.isLt
  congr 1 <;> apply Fin.ext
  · show (6 + 3 * k.val + j.val - 6) / 3 % 4 = k.val; omega
  · show (6 + 3 * k.val + j.val - 6) % 3 = j.val; omega

/-! ## What is handed over -/

/-- A slot at contents not chosen. -/
def anySlot (b : Memref sig .tc .vmem S3x256x1024 .bf16) (j : Fin 3) (c : Dev nD) : sProp 𝕄 :=
  iprop(∃ f, (slot b j).view.loc (c : Thread nD τ) ↦[(slot b j).view.set]{fullShare} f)

/-- The three shares of the sum about to leave, one for each copy that reads it. -/
def share (j : Fin 3) : PosShare TreeShare := match j with
  | 0 => fullShare.left
  | 1 => fullShare.right.left
  | 2 => fullShare.right.right

/-- The sum about to leave at share `q`. -/
def sumPts (q : PosShare TreeShare) (c : Dev nD) (X : Vec F S256x1024 .bf16) : sProp 𝕄 :=
  (sumOut : Memref sig .tc .vmem S256x1024 .bf16).view.loc (c : Thread nD τ)
    ↦[(sumOut : Memref sig .tc .vmem S256x1024 .bf16).view.set]{q} X

/-- Contents of a three-slot buffer with `X` in slot `j`; nothing is said of the other slots. -/
def filled (b : Memref sig .tc .vmem S3x256x1024 .bf16) (j : Fin 3) (c : Dev nD) (X : Vec F S256x1024 .bf16) :
    Buf (Elt F) ((slot b j).view.loc (c : Thread nD τ)) :=
  (slot b j).view.write (Elt F) (slot b j).view.junk X Finset.univ

/-- Slot `j` holding `X`. -/
abbrev slotAt (b : Memref sig .tc .vmem S3x256x1024 .bf16) (j : Fin 3) (c : Dev nD) (X : Vec F S256x1024 .bf16) : sProp 𝕄 :=
  (slot b j).view.loc (c : Thread nD τ) ↦[(slot b j).view.set]{fullShare} filled b j c X

/-- Barrier duty `j` on device `d`: the two slots its `j`-th copies write, on `nx j d`, and that their arrival cells are open. -/
def barPay (d : Dev nD) (j : Fin 3) : sProp 𝕄 :=
  iprop(anySlot partIn j (nx j d) ∗ anySlot sumIn j (nx j d) ∗ reached ER (cell 1 j (nx j d)) 0 ∗ reached ER (cell 3 j (nx j d)) 0)

/-- The duty of a copy cell: the source back at a departure, the written slot at an arrival. -/
def copyPay (I : Dev nD → Ins F) (k : Fin 4) (j : Fin 3) (c : Dev nD) : sProp 𝕄 := match k with
  | 0 => anySlot partOut j c
  | 1 => slotAt partIn j c (sent (I (pv j c)) c)
  | 2 => sumPts (share j) c (totalSent I c)
  | 3 => slotAt sumIn j c (totalSent I (pv j c))

instance anySlot_storable (b) (j : Fin 3) (c : Dev nD) : BI.Storable (upEmb : UEmb _ 𝕄) (anySlot (F := F) b j c) := by unfold anySlot; infer_instance
instance sumPts_storable (q) (c : Dev nD) (X) : BI.Storable (upEmb : UEmb _ 𝕄) (sumPts (F := F) q c X) := by unfold sumPts; infer_instance
instance barPay_storable (d : Dev nD) (j : Fin 3) : BI.Storable (upEmb : UEmb _ 𝕄) (barPay (F := F) d j) := by unfold barPay; infer_instance
instance copyPay_storable (I : Dev nD → Ins F) (k : Fin 4) (j : Fin 3) (c : Dev nD) : BI.Storable (upEmb : UEmb _ 𝕄) (copyPay I k j c) := by
  unfold copyPay; split <;> infer_instance

/-! ## The schedule -/

/-- One round on every cell: three unit duties on a barrier, one copy's credit on a copy cell. -/
def rd (I : Dev nD → Ins F) : Rounds.Schedule (GSem nD τ sig) (Fin 3) 𝕄 where
  duties g r := if r = 0 ∧ g.1.2 = .tc then (match kind g.2 with | .bar => Finset.univ | .copy _ _ => {0} | .other => ∅) else ∅
  unitless _ := False
  amount g _ _ := match kind g.2 with | .bar => 1 | _ => N
  payload g _ d := match kind g.2 with | .bar => barPay g.1.1 d | .copy k j => copyPay I k j g.1.1 | .other => iprop(emp)
  amount_pos g _ _ _ := by
    split
    · exact Nat.one_pos
    · exact N_pos

instance rd_storable (I : Dev nD → Ins F) (g : GSem nD τ sig) (r : ℕ) (d : Fin 3) : BI.Storable (upEmb : UEmb _ 𝕄) ((rd I).payload g r d) := by
  show BI.Storable upEmb (match kind g.2 with | .bar => barPay g.1.1 d | .copy k j => copyPay I k j g.1.1 | .other => iprop(emp))
  split <;> infer_instance

section Tables
variable (I : Dev nD → Ins F) (c : Dev nD) (k : Fin 4) (j : Fin 3)

theorem duties_bar : (rd I).duties (barC c) 0 = Finset.univ := by dsimp only [rd]; rw [if_pos ⟨rfl, rfl⟩, kind_bar]
theorem duties_copy : (rd I).duties (cell k j c) 0 = {0} := by dsimp only [rd]; rw [if_pos ⟨rfl, rfl⟩, kind_copy]
theorem duties_later (g : GSem nD τ sig) : ∀ r, 1 ≤ r → (rd I).duties g r = ∅ :=
  fun r hr => by dsimp only [rd]; rw [if_neg (fun h => by omega)]

theorem amount_bar (d : Fin 3) : (rd I).amount (barC c) 0 d = 1 := by dsimp only [rd]; rw [kind_bar]
theorem amount_copy (d : Fin 3) : (rd I).amount (cell k j c) 0 d = N := by dsimp only [rd]; rw [kind_copy]

theorem expect_bar : (rd I).expect (barC c) 0 = 3 := by
  unfold Schedule.expect Schedule.amountOf
  rw [duties_bar, Finset.sum_congr rfl fun d _ => amount_bar I c d]; rfl
theorem expect_copy : (rd I).expect (cell k j c) 0 = N := by
  unfold Schedule.expect Schedule.amountOf; rw [duties_copy, Finset.sum_singleton, amount_copy]

theorem payload_bar (d : Fin 3) : (rd I).payload (barC c) 0 d = barPay c d := by dsimp only [rd]; rw [kind_bar]
theorem payload_copy (d : Fin 3) : (rd I).payload (cell k j c) 0 d = copyPay I k j c := by dsimp only [rd]; rw [kind_copy]

/-- All a barrier's wait brings. -/
theorem rest_bar : bigSep ((rd I).duties (barC c) 0 \ ∅) (fun d => (rd I).payload (barC c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_copy : bigSep ((rd I).duties (cell k j c) 0 \ ∅) (fun d => (rd I).payload (cell k j c) 0 d) = copyPay I k j c := by
  rw [Finset.sdiff_empty, duties_copy, bigSep_singleton, payload_copy]

end Tables

/-! ## What a device owes, and the order of the waits -/

/-- The arrivals of its sums on the other three. -/
def owesSum (c : Dev nD) : CellTallies nD τ sig Unit :=
  0 + tallyAt (cell 3 2 (nx 2 c)) () N + tallyAt (cell 3 1 (nx 1 c)) () N + tallyAt (cell 3 0 (nx 0 c)) () N
/-- With the arrivals of its parts. -/
def owesPart (c : Dev nD) : CellTallies nD τ sig Unit :=
  owesSum c + tallyAt (cell 1 2 (nx 2 c)) () N + tallyAt (cell 1 1 (nx 1 c)) () N + tallyAt (cell 1 0 (nx 0 c)) () N
/-- With its barrier signals: what it owes at launch. -/
def owesAll (c : Dev nD) : CellTallies nD τ sig Unit :=
  owesPart c + tallyAt (barC (nx 2 c)) () 1 + tallyAt (barC (nx 1 c)) () 1 + tallyAt (barC (nx 0 c)) () 1

def L (g : GSem nD τ sig) : Finset Unit := if g.1.2 = .tc then {()} else ∅
/-- Barriers below the arrivals of parts, those below the arrivals of sums; every other cell at the bottom. -/
def lv (g : GSem nD τ sig) (_ : Unit) : ℕ := match kind g.2 with
  | .bar => 1
  | .copy 1 _ => 2
  | .copy 3 _ => 3
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barC c) u = 1 := by dsimp only [lv]; rw [kind_bar]
theorem lv_part (j : Fin 3) (c : Dev nD) (u : Unit) : lv (cell 1 j c) u = 2 := by dsimp only [lv]; rw [kind_copy]; rfl
theorem lv_sum (j : Fin 3) (c : Dev nD) (u : Unit) : lv (cell 3 j c) u = 3 := by dsimp only [lv]; rw [kind_copy]; rfl

/-- A tally owed on one of two: it is owed on the first or the second. -/
theorem pos_add {O : CellTallies nD τ sig Unit} {g g' : GSem nD τ sig} {u u' : Unit} {n : ℕ}
    (h : 0 < (O + tallyAt g' u' n) g u) : 0 < O g u ∨ g = g' := by
  rw [Pi.add_apply, Finsupp.add_apply, tallyAt_apply] at h
  by_cases hg : g = g' ∧ u = u'
  · exact .inr hg.1
  · rw [if_neg hg, Nat.add_zero] at h; exact .inl h

theorem owesSum_pos {c : Dev nD} {g : GSem nD τ sig} {u : Unit} (h : 0 < owesSum c g u) : ∃ j d, g = cell 3 j d := by
  unfold owesSum at h
  rcases pos_add h with h | h
  · rcases pos_add h with h | h
    · rcases pos_add h with h | h
      · exact absurd h (Nat.lt_irrefl 0)
      · exact ⟨_, _, h⟩
    · exact ⟨_, _, h⟩
  · exact ⟨_, _, h⟩

theorem owesPart_pos {c : Dev nD} {g : GSem nD τ sig} {u : Unit} (h : 0 < owesPart c g u) : (∃ j d, g = cell 3 j d) ∨ ∃ j d, g = cell 1 j d := by
  unfold owesPart at h
  rcases pos_add h with h | h
  · rcases pos_add h with h | h
    · rcases pos_add h with h | h
      · exact .inl (owesSum_pos h)
      · exact .inr ⟨_, _, h⟩
    · exact .inr ⟨_, _, h⟩
  · exact .inr ⟨_, _, h⟩

theorem owesAll_pos {c : Dev nD} {g : GSem nD τ sig} {u : Unit} (h : 0 < owesAll c g u) :
    ((∃ j d, g = cell 3 j d) ∨ ∃ j d, g = cell 1 j d) ∨ ∃ d, g = barC d := by
  unfold owesAll at h
  rcases pos_add h with h | h
  · rcases pos_add h with h | h
    · rcases pos_add h with h | h
      · exact .inl (owesPart_pos h)
      · exact .inr ⟨_, h⟩
    · exact .inr ⟨_, h⟩
  · exact .inr ⟨_, h⟩

/-- What is owed sits on cells of level one or more, at the one index. -/
theorem owesAll_cut {c : Dev nD} {g : GSem nD τ sig} {u : Unit} (h : 0 < owesAll c g u) : u ∈ L g ∧ 0 < lv g u := by
  rcases owesAll_pos h with (⟨j, d, rfl⟩ | ⟨j, d, rfl⟩) | ⟨d, rfl⟩
  · exact ⟨by rw [L_tc]; exact Finset.mem_singleton_self _, by rw [lv_sum]; decide⟩
  · exact ⟨by rw [L_tc]; exact Finset.mem_singleton_self _, by rw [lv_part]; decide⟩
  · exact ⟨by rw [L_tc]; exact Finset.mem_singleton_self _, by rw [lv_bar]; decide⟩

/-- At its barrier a device owes arrivals only, all above the barrier. -/
theorem mayWait_bar (c : Dev nD) : (levAts L lv : sProp 𝕄) ⊢ MayWait (c : Thread nD τ) (.reg barS) () (owesPart c) :=
  MayOwe.of_cut (L := L) (lev := lv) 1 (fun p hp => by rw [Finset.mem_singleton.mp hp, L_tc]; exact Finset.mem_singleton_self _)
    (fun g u hg => by rcases owesPart_pos hg with ⟨j, d, rfl⟩ | ⟨j, d, rfl⟩ <;> exact Finset.mem_singleton_self _)
    (fun p hp => by rw [Finset.mem_singleton.mp hp, lv_bar])
    (fun g u hg => by
      rcases owesPart_pos hg with ⟨j, d, rfl⟩ | ⟨j, d, rfl⟩
      · rw [lv_sum]; decide
      · rw [lv_part]; decide)

/-- At an arrival of a part a device owes arrivals of sums only, all above it. -/
theorem mayWait_part (j : Fin 3) (c : Dev nD) : (levAts L lv : sProp 𝕄) ⊢ MayWait (c : Thread nD τ) (.dma (csem 1 j)) () (owesSum c) :=
  MayOwe.of_cut (L := L) (lev := lv) 2 (fun p hp => by rw [Finset.mem_singleton.mp hp, L_tc]; exact Finset.mem_singleton_self _)
    (fun g u hg => by obtain ⟨j, d, rfl⟩ := owesSum_pos hg; exact Finset.mem_singleton_self _)
    (fun p hp => by rw [Finset.mem_singleton.mp hp, lv_part])
    (fun g u hg => by obtain ⟨j, d, rfl⟩ := owesSum_pos hg; rw [lv_sum]; decide)

/-! ## The protocol's records -/

/-- Every cell's invariant, under one map of names, and that round 0 of every barrier is reached. -/
def records (I : Dev nD → Ins F) (K : GSem nD τ sig → ℕ) : sProp 𝕄 :=
  iprop((bigSep Finset.univ fun c : Dev nD => iprop(cellInv ER (rd I) (K (barC c)) (barC c) ∗ reached ER (barC c) 0))
    ∗ bigSep Finset.univ fun x : Dev nD × (Fin 4 × Fin 3) => cellInv ER (rd I) (K (cell x.2.1 x.2.2 x.1)) (cell x.2.1 x.2.2 x.1))

instance records_persistent (I : Dev nD → Ins F) (K : GSem nD τ sig → ℕ) : BI.Persistent (records I K) := by unfold records; infer_instance

theorem inv_bar (I : Dev nD → Ins F) (K : GSem nD τ sig → ℕ) (c : Dev nD) :
    records I K ⊢ iprop(cellInv ER (rd I) (K (barC c)) (barC c) ∗ reached ER (barC c) 0) := by
  have h : (bigSep Finset.univ fun c : Dev nD => (iprop(cellInv ER (rd I) (K (barC c)) (barC c) ∗ reached ER (barC c) 0) : sProp 𝕄))
      ⊢ iprop(cellInv ER (rd I) (K (barC c)) (barC c) ∗ reached ER (barC c) 0) := bigSep_elim (Finset.mem_univ c)
  unfold records
  iintro ⟨H, -⟩
  iapply h; iexact H
theorem inv_copy (I : Dev nD → Ins F) (K : GSem nD τ sig → ℕ) (k : Fin 4) (j : Fin 3) (c : Dev nD) :
    records I K ⊢ cellInv ER (rd I) (K (cell k j c)) (cell k j c) := by
  have h : (bigSep Finset.univ fun x : Dev nD × (Fin 4 × Fin 3) => (cellInv ER (rd I) (K (cell x.2.1 x.2.2 x.1)) (cell x.2.1 x.2.2 x.1) : sProp 𝕄))
      ⊢ cellInv ER (rd I) (K (cell k j c)) (cell k j c) := bigSep_elim (Finset.mem_univ (c, (k, j)))
  unfold records
  iintro ⟨-, H⟩
  iapply h; iexact H

/-- The tokens of the duties device `c` pays in connection with its `j`-th copies: the signal to `nx j c`, and the two ends of both copies. -/
def tokens (c : Dev nD) (j : Fin 3) : sProp 𝕄 :=
  iprop(dutyTok ER (barC (nx j c)) 0 (Fin.rev j) ∗ dutyTok ER (cell 0 j c) 0 0 ∗ dutyTok ER (cell 1 j (nx j c)) 0 0
    ∗ dutyTok ER (cell 2 j c) 0 0 ∗ dutyTok ER (cell 3 j (nx j c)) 0 0)

/-- A device's position on its four cells of copy `j`, each at round 0 reached. -/
def opened (c : Dev nD) (j : Fin 3) : sProp 𝕄 :=
  iprop((atPos ER (cell 0 j c) 0 ∅ 0 ∗ reached ER (cell 0 j c) 0) ∗ (atPos ER (cell 1 j c) 0 ∅ 0 ∗ reached ER (cell 1 j c) 0)
    ∗ (atPos ER (cell 2 j c) 0 ∅ 0 ∗ reached ER (cell 2 j c) 0) ∗ (atPos ER (cell 3 j c) 0 ∅ 0 ∗ reached ER (cell 3 j c) 0))

/-- The credit a device waits with for the `j`-th arrivals. -/
def credits (c : Dev nD) (j : Fin 3) : sProp 𝕄 :=
  iprop(cred (tallyAt (cell 1 j c) () N) ∗ cred (tallyAt (cell 3 j c) () N))

/-- A cell whose one round is done is closed: its counter comes back at zero. -/
theorem close (I : Dev nD → Ins F) (κ : ℕ) (g : GSem nD τ sig) :
    iprop(cellInv ER (rd I) κ g ∗ atPos ER g (0 + 1) ∅ 0) ⊢ (|={Set.univ}=> semVal g 0 : sProp 𝕄) :=
  Rounds.cell_close ER (rd I) (Set.mem_univ κ) id (duties_later I g)

end Cert.KernelIdeal.Hand

end
-- ==== Proof.KernelIdeal.Sends.lean ====
/-
  The two kinds of copy a device issues, as rules: from the source, the slot on the peer and the protocol's tokens, a copy
  pays its arrival and leaves the credit for its departure.
-/
module

public import proofs.«01_k».proof.Proof.KernelIdeal.Sched

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- No loop of the program needs a variant. -/
abbrev 𝒱₀ : Variants := Variants.none

/-- A buffer of device `c`, whole, at contents `f`. -/
abbrev pt (c : Dev nD) (b : Ref sig .tc) (f : b.ty.Contents (Elt F)) : sProp 𝕄 :=
  (Memref.whole b).view.loc (c : Thread nD τ) ↦{fullShare} f
/-- Slot `j` of a buffer of device `c`, the buffer's contents being `f`. -/
abbrev slotPts (b : Memref sig .tc .vmem S3x256x1024 .bf16) (j : Fin 3) (c : Dev nD) (f : Buf (Elt F) ((slot b j).view.loc (c : Thread nD τ))) : sProp 𝕄 :=
  (slot b j).view.loc (c : Thread nD τ) ↦[(slot b j).view.set]{fullShare} f

/-- Inside a slot a write of the whole slot leaves what was written, whatever was there. -/
theorem landed (b : Memref sig .tc .vmem S3x256x1024 .bf16) (j : Fin 3) (c : Dev nD) (fd : Buf (Elt F) ((slot b j).view.loc (c : Thread nD τ)))
    {X Y : Vec F S256x1024 .bf16} (h : X = Y) :
    slotPts b j c ((slot b j).view.write (Elt F) fd X Finset.univ) ⊢ slotAt b j c Y := by
  subst h
  refine .of_eq (pointsTo_congr fun i hi => ?_)
  obtain ⟨x, -, rfl⟩ := Finset.mem_map.mp hi
  unfold filled
  exact (View.write_emb_of_mem _ _ (Finset.mem_univ x)).trans (View.write_emb_of_mem _ _ (Finset.mem_univ x)).symm

/-- A slot reads back what fills it. -/
theorem read_filled (b : Memref sig .tc .vmem S3x256x1024 .bf16) (j : Fin 3) (c : Dev nD) (X : Vec F S256x1024 .bf16) :
    (slot b j).view.read (Elt F) (filled b j c X) = X := by
  unfold filled; exact View.read_write_univ _ _

section Copies
variable (I : Dev nD → Ins F) (K : GSem nD τ sig → ℕ) (c : Dev nD) (j : Fin 3)
variable {O : CellTallies nD τ sig Unit} {W : Waits sig Unit}

/-- The `j`-th copy of a part: slot `j` holds the part of `nx j c`'s rows. -/
theorem send_part {c' : Dev nD} {α : Type} {Q : α → sProp (MT nD τ sig Unit (Elt F) ℕ UU ℕ)} (hc : c' = nx j c) {f : Buf (Elt F) ((slot partOut j).view.loc (c : Thread nD τ))}
    (hf : (slot partOut j).view.read (Elt F) f = sent (I c) (nx j c))
    {hsc : (slot partIn j).view.ref.isScScratch = false} {hsrc : (slot partOut j).view.WordExact} {hdst : (slot partIn j).view.WordExact}
    {hsem : DmaTarget.Typed (nD := nD) (τ := τ) .vmem (.dma (csem 1 j)) (.remote (c' : Thread nD τ) (slot partIn j) (.dma (csem 0 j)) hsc)}
    {k : PUnit → Prog (TpuEff nD τ sig (Elt F) Λ₀ .tc) α} :
    iprop(records I K ∗ slotPts partOut j c f ∗ anySlot partIn j (nx j c) ∗ owes (c : Thread nD τ) (O + tallyAt (cell 1 j (nx j c)) () N) W
        ∗ dutyTok ER (cell 0 j c) 0 0 ∗ reached ER (cell 0 j c) 0 ∗ dutyTok ER (cell 1 j (nx j c)) 0 0 ∗ reached ER (cell 1 j (nx j c)) 0)
      ⊢ iprop(((cred (tallyAt (cell 0 j c) () N) ∗ owes (c : Thread nD τ) O W) -∗ wp frame (wpE (defs₀ (F := F)) 𝒱₀ c none) Set.univ (k ⟨⟩) Q)
          -∗ wp frame (wpE (defs₀ (F := F)) 𝒱₀ c none) Set.univ
            (.op (.enqueueDma (slot partOut j) (.remote (c' : Thread nD τ) (slot partIn j) (.dma (csem 0 j)) hsc) (.dma (csem 1 j)) hsrc hdst hsem) k) Q) := by
  subst hc
  unfold anySlot
  have hpay₁ : slotPts partOut j c f ⊢ (rd I).payload (cell 0 j c) 0 0 := by
    rw [payload_copy]; show _ ⊢ anySlot partOut j c; unfold anySlot
    iintro H; iexists f; iexact H
  have hpay₂ (fd) : slotPts partIn j (nx j c) ((slot partIn j).view.write (Elt F) fd ((slot partOut j).view.read (Elt F) f) Finset.univ)
      ⊢ (rd I).payload (cell 1 j (nx j c)) 0 0 := by
    rw [payload_copy]; show _ ⊢ slotAt partIn j (nx j c) (sent (I (pv j (nx j c))) (nx j c))
    rw [pv_nx]; exact landed partIn j (nx j c) fd hf
  have hr : τ.routes (c : Thread nD τ) (nx j c : Thread nD τ) = true := by routes
  have hd (k : Fin 4) (d : Dev nD) : (0 : Fin 3) ∈ (rd I).duties (cell k j d) 0 := by rw [duties_copy]; exact Finset.mem_singleton_self _
  iintro ⟨#HR, Hs, ⟨%fd, Hd⟩, HO, Ht0, #Hr0, Ht1, #Hr1⟩
  iapply (Rounds.wp_send_pointsTo 𝒱₀ ER (rd I) (c : Thread nD τ) none (c' := (nx j c : Thread nD τ)) (src := slot partOut j) (dst := slot partIn j)
    (sS := .dma (csem 0 j)) (sem := .dma (csem 1 j)) (q := fullShare) (fs := f) (fd := fd) (r₁ := 0) (r₂ := 0) (d₁ := 0) (d₂ := 0)
    (κ₁ := K (cell 0 j c)) (κ₂ := K (cell 1 j (nx j c)))
    (hd 0 c) (hd 1 (nx j c))
    () () N rfl (amount_copy I c 0 j 0) (amount_copy I (nx j c) 1 j 0) O rfl (W := W)
    hpay₁ (hpay₂ fd) hr) $$ [Hs Hd HO Ht0 Ht1]
  isplitr; · iapply (inv_copy I K 0 j c); iexact HR
  isplitr; · iapply (inv_copy I K 1 j (nx j c)); iexact HR
  isplitl [Hs]; · iexact Hs
  isplitl [Hd]; · iexact Hd
  isplitl [HO]; · iexact HO
  isplitl [Ht0]; · iexact Ht0
  isplitr; · iexact Hr0
  isplitl [Ht1]; · iexact Ht1
  iexact Hr1

/-- The `j`-th copy of the device's sum, read at its share. -/
theorem send_sum {c' : Dev nD} {α : Type} {Q : α → sProp (MT nD τ sig Unit (Elt F) ℕ UU ℕ)} (hc : c' = nx j c)
    {hsc : (slot sumIn j).view.ref.isScScratch = false} {hsrc : sumOut.view.WordExact} {hdst : (slot sumIn j).view.WordExact}
    {hsem : DmaTarget.Typed (nD := nD) (τ := τ) .vmem (.dma (csem 3 j)) (.remote (c' : Thread nD τ) (slot sumIn j) (.dma (csem 2 j)) hsc)}
    {k : PUnit → Prog (TpuEff nD τ sig (Elt F) Λ₀ .tc) α} :
    iprop(records I K ∗ sumPts (share j) c (totalSent I c) ∗ anySlot sumIn j (nx j c) ∗ owes (c : Thread nD τ) (O + tallyAt (cell 3 j (nx j c)) () N) W
        ∗ dutyTok ER (cell 2 j c) 0 0 ∗ reached ER (cell 2 j c) 0 ∗ dutyTok ER (cell 3 j (nx j c)) 0 0 ∗ reached ER (cell 3 j (nx j c)) 0)
      ⊢ iprop(((cred (tallyAt (cell 2 j c) () N) ∗ owes (c : Thread nD τ) O W) -∗ wp frame (wpE (defs₀ (F := F)) 𝒱₀ c none) Set.univ (k ⟨⟩) Q)
          -∗ wp frame (wpE (defs₀ (F := F)) 𝒱₀ c none) Set.univ
            (.op (.enqueueDma sumOut (.remote (c' : Thread nD τ) (slot sumIn j) (.dma (csem 2 j)) hsc) (.dma (csem 3 j)) hsrc hdst hsem) k) Q) := by
  subst hc
  unfold anySlot sumPts
  have hpay₁ : sumPts (share j) c (totalSent I c) ⊢ (rd I).payload (cell 2 j c) 0 0 := by rw [payload_copy]; exact .rfl
  have hpay₂ (fd) : slotPts sumIn j (nx j c) ((slot sumIn j).view.write (Elt F) fd (sumOut.view.read (Elt F) (totalSent I c)) Finset.univ)
      ⊢ (rd I).payload (cell 3 j (nx j c)) 0 0 := by
    rw [payload_copy]; show _ ⊢ slotAt sumIn j (nx j c) (totalSent I (pv j (nx j c)))
    rw [pv_nx]; exact landed sumIn j (nx j c) fd (View.read_whole _ _)
  have hr : τ.routes (c : Thread nD τ) (nx j c : Thread nD τ) = true := by routes
  have hd (k : Fin 4) (d : Dev nD) : (0 : Fin 3) ∈ (rd I).duties (cell k j d) 0 := by rw [duties_copy]; exact Finset.mem_singleton_self _
  iintro ⟨#HR, Hs, ⟨%fd, Hd⟩, HO, Ht0, #Hr0, Ht1, #Hr1⟩
  iapply (Rounds.wp_send_pointsTo 𝒱₀ ER (rd I) (c : Thread nD τ) none (c' := (nx j c : Thread nD τ)) (src := sumOut) (dst := slot sumIn j)
    (sS := .dma (csem 2 j)) (sem := .dma (csem 3 j)) (q := share j) (fs := totalSent I c) (fd := fd) (r₁ := 0) (r₂ := 0) (d₁ := 0) (d₂ := 0)
    (κ₁ := K (cell 2 j c)) (κ₂ := K (cell 3 j (nx j c)))
    (hd 2 c) (hd 3 (nx j c))
    () () N rfl (amount_copy I c 2 j 0) (amount_copy I (nx j c) 3 j 0) O rfl (W := W)
    hpay₁ (hpay₂ fd) hr) $$ [Hs Hd HO Ht0 Ht1]
  isplitr; · iapply (inv_copy I K 2 j c); iexact HR
  isplitr; · iapply (inv_copy I K 3 j (nx j c)); iexact HR
  isplitl [Hs]; · iexact Hs
  isplitl [Hd]; · iexact Hd
  isplitl [HO]; · iexact HO
  isplitl [Ht0]; · iexact Ht0
  isplitr; · iexact Hr0
  isplitl [Ht1]; · iexact Ht1
  iexact Hr1

end Copies

end Cert.KernelIdeal.Hand

end
-- ==== Proof.KernelIdeal.Places.lean ====
/-
  Places: a three-slot buffer as its slots, the sum about to leave as its shares, and the result's rows as written.
-/
module

public import proofs.«01_k».proof.Proof.KernelIdeal.Sends
public import Idealize.ShloMosaic.Lib.Ring

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- A slot's elements are those of its rectangle of the buffer. -/
theorem slot_set (b : Memref sig .tc .vmem S3x256x1024 .bf16) (j : Fin 3) :
    (slot b j).view.set = (Rect.unit (s := S3x256x1024) ![j.val, 0, 0] S1x256x1024.size (slot_inb j)).set.map b.view.emb :=
  (View.set_reshape _ _).trans (View.set_slice _ _)

theorem slot_disjoint (b : Memref sig .tc .vmem S3x256x1024 .bf16) : ∀ i j : Fin 3, i ≠ j → Disjoint (slot b i).view.set (slot b j).view.set := by
  intro i j h
  rw [slot_set, slot_set, Finset.disjoint_map]
  refine Rect.unit_disjoint 0 ?_
  have := Fin.val_ne_of_ne h
  show i.val + 1 ≤ j.val ∨ j.val + 1 ≤ i.val
  omega

theorem slot_cover (b : Memref sig .tc .vmem S3x256x1024 .bf16) : Finset.univ.biUnion (fun j => (slot b j).view.set) = b.view.set := by
  ext y
  constructor
  · intro h
    obtain ⟨j, -, h⟩ := Finset.mem_biUnion.mp h
    rw [slot_set] at h
    exact Finset.map_subset_map.mpr (Finset.subset_univ _) h
  · intro h
    obtain ⟨x, -, rfl⟩ := Finset.mem_map.mp h
    refine Finset.mem_biUnion.mpr ⟨⟨(x 0).val, (x 0).isLt⟩, Finset.mem_univ _, ?_⟩
    rw [slot_set]
    refine Finset.mem_map_of_mem _ (Rect.mem_set_unit.mpr fun a => ?_)
    match a with
    | ⟨0, _⟩ => exact ⟨le_refl (x 0).val, Nat.lt_succ_self (x 0).val⟩
    | ⟨1, _⟩ => exact ⟨Nat.zero_le _, lt_of_lt_of_eq (x 1).isLt (Nat.zero_add _).symm⟩
    | ⟨2, _⟩ => exact ⟨Nat.zero_le _, lt_of_lt_of_eq (x 2).isLt (Nat.zero_add _).symm⟩

/-- A three-slot buffer taken apart. -/
theorem slots_split (b : Memref sig .tc .vmem S3x256x1024 .bf16) (c : Dev nD) (f : Buf (Elt F) (b.view.loc (c : Thread nD τ))) :
    (b.view.loc (c : Thread nD τ) ↦[b.view.set]{fullShare} f : sProp 𝕄) ⊢ iprop(slotPts b 0 c f ∗ slotPts b 1 c f ∗ slotPts b 2 c f) :=
  .of_eq ((Ring.pointsTo_sub_blocks (ℓ := b.view.loc (c : Thread nD τ)) (fun j => (slot b j).view.set) (slot_disjoint b) _ (slot_cover b) f).trans
    (Ring.bigSep_fin3 _))

/-- The three slots put together, whatever they hold. -/
theorem slots_join (b : Memref sig .tc .vmem S3x256x1024 .bf16) (c : Dev nD) (f₀ : Buf (Elt F) (b.view.loc (c : Thread nD τ))) :
    (iprop(anySlot b 0 c ∗ anySlot b 1 c ∗ anySlot b 2 c) : sProp 𝕄) ⊢ iprop(∃ g, b.view.loc (c : Thread nD τ) ↦[b.view.set]{fullShare} g) := by
  have h := Ring.pointsTo_sub_blocks_join_exists (Ix := Unit) (Name := ℕ) (U := UU) (Lvl := ℕ) (ℓ := b.view.loc (c : Thread nD τ)) (fun j => (slot b j).view.set) (slot_disjoint b) _ (slot_cover b) (q := fullShare) f₀
  rw [Ring.bigSep_fin3] at h
  exact h

/-- The sum about to leave, shared among its three copies, and put together again. -/
theorem sum_split (c : Dev nD) (X : Vec F S256x1024 .bf16) :
    (pt c cc0_scratch3 X : sProp 𝕄) ⊢ iprop(sumPts (share 0) c X ∗ sumPts (share 1) c X ∗ sumPts (share 2) c X) := by
  unfold sumPts share
  rw [View.set_whole]
  refine (pointsTo_share (PosShare.mem_left_op_right fullShare)).1.trans ?_
  iintro ⟨H0, H⟩
  isplitl [H0]; · iexact H0
  iapply (pointsTo_share (PosShare.mem_left_op_right fullShare.right)).1
  iexact H
theorem sum_join (c : Dev nD) (X : Vec F S256x1024 .bf16) :
    (iprop(sumPts (share 0) c X ∗ sumPts (share 1) c X ∗ sumPts (share 2) c X) : sProp 𝕄) ⊢ pt c cc0_scratch3 X := by
  unfold sumPts share
  rw [View.set_whole]
  refine .trans ?_ (pointsTo_share (PosShare.mem_left_op_right fullShare)).2
  iintro ⟨H0, H⟩
  isplitl [H0]; · iexact H0
  iapply (pointsTo_share (PosShare.mem_left_op_right fullShare.right)).2
  iexact H

/-! ## Rows written -/

/-- What a store of 256 rows at block `r` leaves. -/
theorem rows_write {r : Dev nD} {off : Fin 2 → ℕ} (h : off = ![256 * r.val, 0])
    (inb : ∀ a, off a + S256x1024.size a ≤ S1024x1024.size a) (f : Vec F S1024x1024 .f32) (w : Vec F S256x1024 .f32) (i : S1024x1024.Idx) :
    ((Memref.whole cc0_stg5_0).access (Rect.unit (s := S1024x1024) off S256x1024.size inb)).write (Elt F) f w Finset.univ i
      = if blockOf i = r then w (placeOf i) else f i := by
  subst h
  have h0 : (i 0).val < 1024 := (i 0).isLt
  have hv : (blockOf i).val = (i 0).val / 256 := rfl
  split
  · rename_i hr
    have e : ((Memref.whole cc0_stg5_0).access (Rect.unit (s := S1024x1024) ![256 * r.val, 0] S256x1024.size inb)).emb (placeOf i) = i := by
      funext a
      refine Fin.ext ?_
      match a with
      | ⟨0, _⟩ =>
        show 256 * r.val + 1 * ((i 0).val % 256) = (i 0).val
        have := congrArg Fin.val hr
        omega
      | ⟨1, _⟩ => show 0 + 1 * (i 1).val = (i 1).val; omega
    conv_lhs => rw [← e]
    exact View.write_emb_of_mem _ _ (Finset.mem_univ _)
  · rename_i hr
    refine View.write_of_not_mem _ _ _ fun hm => hr ?_
    obtain ⟨x, -, rfl⟩ := Finset.mem_map.mp hm
    refine Fin.ext ?_
    have hx : (x 0).val < 256 := (x 0).isLt
    show (256 * r.val + 1 * (x 0).val) / 256 = r.val
    omega

/-- Every block is the device's own or one of the three before it. -/
theorem block_cases : ∀ c r : Dev nD, r = c ∨ r = pv 0 c ∨ r = pv 1 c ∨ r = pv 2 c := by decide
theorem pv_ne : ∀ (j : Fin 3) (c : Dev nD), pv j c ≠ c := by decide
theorem pv_inj : ∀ (i j : Fin 3) (c : Dev nD), i ≠ j → pv i c ≠ pv j c := by decide

/-- The result once the own rows and the three arrived blocks are written. -/
theorem out_written (I : Dev nD → Ins F) (c : Dev nD) (f : Vec F S1024x1024 .f32)
    {o o0 o1 o2 : Fin 2 → ℕ} (h : o = ![256 * c.val, 0]) (h0 : o0 = ![256 * (pv 0 c).val, 0]) (h1 : o1 = ![256 * (pv 1 c).val, 0]) (h2 : o2 = ![256 * (pv 2 c).val, 0])
    (i : ∀ a, o a + S256x1024.size a ≤ S1024x1024.size a) (i0 : ∀ a, o0 a + S256x1024.size a ≤ S1024x1024.size a)
    (i1 : ∀ a, o1 a + S256x1024.size a ≤ S1024x1024.size a) (i2 : ∀ a, o2 a + S256x1024.size a ≤ S1024x1024.size a)
    {w w0 w1 w2 : Vec F S256x1024 .f32} (hw : w = total I c)
    (hw0 : w0 = extf .f32 (totalSent I (pv 0 c)) bitsLt_bf16_f32) (hw1 : w1 = extf .f32 (totalSent I (pv 1 c)) bitsLt_bf16_f32)
    (hw2 : w2 = extf .f32 (totalSent I (pv 2 c)) bitsLt_bf16_f32) :
    ((Memref.whole cc0_stg5_0).access (Rect.unit (s := S1024x1024) o2 S256x1024.size i2)).write (Elt F)
      (((Memref.whole cc0_stg5_0).access (Rect.unit (s := S1024x1024) o1 S256x1024.size i1)).write (Elt F)
        (((Memref.whole cc0_stg5_0).access (Rect.unit (s := S1024x1024) o0 S256x1024.size i0)).write (Elt F)
          (((Memref.whole cc0_stg5_0).access (Rect.unit (s := S1024x1024) o S256x1024.size i)).write (Elt F) f w Finset.univ)
          w0 Finset.univ) w1 Finset.univ) w2 Finset.univ = outAt I c := by
  funext x
  refine (rows_write h2 i2 _ _ x).trans ?_
  unfold outAt outRows
  by_cases e2 : blockOf x = pv 2 c
  · rw [if_pos e2, if_neg (e2 ▸ pv_ne 2 c), hw2, e2]
  rw [if_neg e2]
  refine (rows_write h1 i1 _ _ x).trans ?_
  by_cases e1 : blockOf x = pv 1 c
  · rw [if_pos e1, if_neg (e1 ▸ pv_ne 1 c), hw1, e1]
  rw [if_neg e1]
  refine (rows_write h0 i0 _ _ x).trans ?_
  by_cases e0 : blockOf x = pv 0 c
  · rw [if_pos e0, if_neg (e0 ▸ pv_ne 0 c), hw0, e0]
  rw [if_neg e0]
  refine (rows_write h i _ _ x).trans ?_
  have e : blockOf x = c := by
    rcases block_cases c (blockOf x) with h | h | h | h
    · exact h
    · exact absurd h e0
    · exact absurd h e1
    · exact absurd h e2
  rw [if_pos e, if_pos e, hw]

end Cert.KernelIdeal.Hand

end
-- ==== Proof.KernelIdeal.Reads.lean ====
/-
  What the body's loads and stores read and leave, in the words of the mathematics: windows of 256 rows at an offset known
  to be a block's, whole arrays, the bias as stored, a slot as read and as written.
-/
module

public import proofs.«01_k».proof.Proof.KernelIdeal.Places
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

theorem zeros2 : (![0, 0] : Fin 2 → ℕ) = fun _ => 0 := by funext a; revert a; decide

/-- 256 rows read at an offset that is block `r`'s are block `r`. -/
theorem rows_read {e : EltTy} {r : Fin 4} {off : Fin 2 → ℕ} (h : off = ![256 * r.val, 0])
    (inb : ∀ a, off a + S256x1024.size a ≤ S1024x1024.size a) (A : Vec F S1024x1024 e) :
    (fun i => A ((Rect.unit (s := S1024x1024) off S256x1024.size inb).emb i)) = rowsOf r A := by
  subst h; rfl

/-- The bias from its five arguments. -/
theorem bias_of {a : IVec S1024x1024 1} {w : BitVec 32} {b : IVec S1024x1024 32} {p q : IVec S1024x1024 1}
    (ha : a = k0_pay6 (iota .tc S1024x1024 32 [0] iota_S1024x1024_d0_w32) k0_pay1 k0_pay2 k0_pay3) (hw : w = 3#32)
    (hb : b = k0_pay7 (iota .tc S1024x1024 32 [0] iota_S1024x1024_d0_w32) k0_pay1 k0_pay2 k0_pay3)
    (hp : p = k0_pay8 (iota .tc S1024x1024 32 [0] iota_S1024x1024_d0_w32) k0_pay1 k0_pay2 k0_pay3)
    (hq : q = k0_pay9 (iota .tc S1024x1024 32 [0] iota_S1024x1024_d0_w32) k0_pay1 k0_pay2 k0_pay3) :
    k0_pay10 (F := F) a w b p q = bias := by
  subst ha hw hb hp hq
  unfold bias
  rw [show Scalar.select (Scalar.cmpi .eq 3#32 0#32) 1#32 3#32 = 3#32 by decide]

/-- Block `r` of the rows of `x` as the body loads it. -/
abbrev loadX (A : Ins F) (off : Fin 2 → ℕ) (inb : ∀ a, off a + S256x1024.size a ≤ S1024x1024.size a) : Vec F S256x1024 .bf16 :=
  View.readAt (Elt F) (Memref.whole cc0_stg0_0).view (Rect.unit (s := S1024x1024) off S256x1024.size inb).toLoadRect A.x
/-- The bias's rows as the body loads them. -/
abbrev loadB (fb : Vec F S1024x1024 .f32) (off : Fin 2 → ℕ) (inb : ∀ a, off a + S256x1024.size a ≤ S1024x1024.size a) : Vec F S256x1024 .f32 :=
  View.readAt (Elt F) (Memref.whole cc0_scratch0).view (Rect.unit (s := S1024x1024) off S256x1024.size inb).toLoadRect fb

/-- A chunk computed on what the body loads at block `r` is the part of block `r`. -/
theorem chunk_loaded (A : Ins F) {r : Fin 4} {off : Fin 2 → ℕ} (h : off = ![256 * r.val, 0])
    (inb : ∀ a, off a + S256x1024.size a ≤ S1024x1024.size a) {fb : Vec F S1024x1024 .f32} (hb : fb = bias) :
    chunk (queries (loadX A off inb) (View.readAt (Elt F) (Memref.whole cc0_stg1_0).view (Rect.unit (s := S1024x1024) ![0, 0] S1024x1024.size inb_S1024x1024_S1024x1024_0_0).toLoadRect A.wq))
      (loadB fb off inb) (fun h => ktHead h A.kt) (fun h => vHead h A.v)
      (View.readAt (Elt F) (Memref.whole cc0_stg4_0).view (Rect.unit (s := S1024x1024) ![0, 0] S1024x1024.size inb_S1024x1024_S1024x1024_0_0).toLoadRect A.wo)
    = part A r := by
  have hx : loadX A off inb = rowsOf r A.x := rows_read h inb A.x
  have hbr : loadB fb off inb = rowsOf r (bias : Vec F S1024x1024 .f32) := by rw [hb]; exact rows_read h inb _
  rw [hx, hbr, show View.readAt (Elt F) (Memref.whole cc0_stg1_0).view (Rect.unit (s := S1024x1024) ![0, 0] S1024x1024.size inb_S1024x1024_S1024x1024_0_0).toLoadRect A.wq = A.wq
      from Memref.readAt_unit_zero (Elt F) cc0_stg1_0 zeros2 _ _,
    show View.readAt (Elt F) (Memref.whole cc0_stg4_0).view (Rect.unit (s := S1024x1024) ![0, 0] S1024x1024.size inb_S1024x1024_S1024x1024_0_0).toLoadRect A.wo = A.wo
      from Memref.readAt_unit_zero (Elt F) cc0_stg4_0 zeros2 _ _]
  rfl

/-- The slot a chunk was stored in, read as the copy reads it, is the part that travels. -/
theorem slot_sent (A : Ins F) (j : Fin 3) {r : Fin 4} {off : Fin 2 → ℕ} (h : off = ![256 * r.val, 0])
    (inb : ∀ a, off a + S256x1024.size a ≤ S1024x1024.size a) {fb : Vec F S1024x1024 .f32} (hb : fb = bias) (f : Vec F S3x256x1024 .bf16)
    {g : Vec F S3x256x1024 .bf16}
    (hg : g = ((Memref.whole cc0_scratch1).access (Rect.unit (s := S3x256x1024) ![j.val, 0, 0] S1x256x1024.size (slot_inb j))).write (Elt F) f
      (shapeCast S1x256x1024 (truncf .bf16
        (chunk (queries (loadX A off inb) (View.readAt (Elt F) (Memref.whole cc0_stg1_0).view (Rect.unit (s := S1024x1024) ![0, 0] S1024x1024.size inb_S1024x1024_S1024x1024_0_0).toLoadRect A.wq))
          (loadB fb off inb) (fun h => ktHead h A.kt) (fun h => vHead h A.v)
          (View.readAt (Elt F) (Memref.whole cc0_stg4_0).view (Rect.unit (s := S1024x1024) ![0, 0] S1024x1024.size inb_S1024x1024_S1024x1024_0_0).toLoadRect A.wo)) bitsLt_bf16_f32 : FVec F S256x1024 .bf16)
        shapeCasts_S256x1024_S1x256x1024) Finset.univ) :
    (slot partOut j).view.read (Elt F) g = sent A r := by
  subst hg
  rw [chunk_loaded A h inb hb]
  refine (congrArg (fun u => shapeCast S256x1024 u shapeCasts_S1x256x1024_S256x1024)
    (View.read_write_univ (v := (Memref.whole cc0_scratch1).access (Rect.unit (s := S3x256x1024) ![j.val, 0, 0] S1x256x1024.size (slot_inb j))) f _)).trans ?_
  rw [shapeCast_shapeCast]; rfl

/-- A filled slot loaded with its unit axis dropped is what fills it. -/
theorem slot_loaded (b : Memref sig .tc .vmem S3x256x1024 .bf16) (j : Fin 3) (c : Dev nD) (X : Vec F S256x1024 .bf16) :
    shapeCast S256x1024 (View.readAt (Elt F) b.view (Rect.unit (s := S3x256x1024) ![j.val, 0, 0] S1x256x1024.size (slot_inb j)).toLoadRect (filled b j c X))
      shapeCasts_S1x256x1024_S256x1024 = X :=
  read_filled b j c X

/-- The own chunk and the arrived parts added up. -/
theorem total_loaded (I : Dev nD → Ins F) (c : Dev nD) {off : Fin 2 → ℕ} (h : off = ![256 * c.val, 0])
    (inb : ∀ a, off a + S256x1024.size a ≤ S1024x1024.size a) {fb : Vec F S1024x1024 .f32} (hb : fb = bias) {t : FVec F S256x1024 .f32}
    (ht : t = addf (addf (addf
        (chunk (queries (loadX (I c) off inb) (View.readAt (Elt F) (Memref.whole cc0_stg1_0).view (Rect.unit (s := S1024x1024) ![0, 0] S1024x1024.size inb_S1024x1024_S1024x1024_0_0).toLoadRect (I c).wq))
          (loadB fb off inb) (fun h => ktHead h (I c).kt) (fun h => vHead h (I c).v)
          (View.readAt (Elt F) (Memref.whole cc0_stg4_0).view (Rect.unit (s := S1024x1024) ![0, 0] S1024x1024.size inb_S1024x1024_S1024x1024_0_0).toLoadRect (I c).wo))
        (extf .f32 (shapeCast S256x1024 (View.readAt (Elt F) partIn.view (Rect.unit (s := S3x256x1024) ![(0 : Fin 3).val, 0, 0] S1x256x1024.size (slot_inb 0)).toLoadRect (filled partIn 0 c (sent (I (pv 0 c)) c))) shapeCasts_S1x256x1024_S256x1024 : FVec F S256x1024 .bf16) bitsLt_bf16_f32))
        (extf .f32 (shapeCast S256x1024 (View.readAt (Elt F) partIn.view (Rect.unit (s := S3x256x1024) ![(1 : Fin 3).val, 0, 0] S1x256x1024.size (slot_inb 1)).toLoadRect (filled partIn 1 c (sent (I (pv 1 c)) c))) shapeCasts_S1x256x1024_S256x1024 : FVec F S256x1024 .bf16) bitsLt_bf16_f32))
        (extf .f32 (shapeCast S256x1024 (View.readAt (Elt F) partIn.view (Rect.unit (s := S3x256x1024) ![(2 : Fin 3).val, 0, 0] S1x256x1024.size (slot_inb 2)).toLoadRect (filled partIn 2 c (sent (I (pv 2 c)) c))) shapeCasts_S1x256x1024_S256x1024 : FVec F S256x1024 .bf16) bitsLt_bf16_f32)) :
    t = total I c := by
  subst ht
  rw [chunk_loaded (I c) h inb hb, slot_loaded, slot_loaded, slot_loaded]
  rfl

/-- A sum that arrived, loaded and widened. -/
theorem sum_loaded (I : Dev nD → Ins F) (j : Fin 3) (c : Dev nD) {t : FVec F S256x1024 .f32}
    (ht : t = extf .f32 (shapeCast S256x1024 (View.readAt (Elt F) sumIn.view (Rect.unit (s := S3x256x1024) ![j.val, 0, 0] S1x256x1024.size (slot_inb j)).toLoadRect (filled sumIn j c (totalSent I (pv j c)))) shapeCasts_S1x256x1024_S256x1024 : FVec F S256x1024 .bf16) bitsLt_bf16_f32) :
    t = extf .f32 (totalSent I (pv j c)) bitsLt_bf16_f32 := by
  subst ht; rw [slot_loaded]

end Cert.KernelIdeal.Hand

end
-- ==== Proof.KernelIdeal.Body.lean ====
/-
  The kernel's body, run once at a symbolic device: the three barrier signals and the barrier's wait; the three parts computed and
  sent; the own part, the three arrivals and the sum; the sum sent three times; the three sums that arrive written; the departures waited for.
-/
module

public import proofs.«01_k».proof.Proof.KernelIdeal.Reads

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig Unit (Elt F) ℕ UU ℕ

/-- The kernel's body on the buffers and semaphores of its launch. -/
abbrev bodyProg : Prog (TpuEff nD τ sig (Elt F) Λ₀ .tc) PUnit :=
  cc0_body (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7 cc0_scratch8

/-- The duties of a barrier, listed. -/
theorem duties_bar' (I : Dev nD → Ins F) (c : Dev nD) : (rd I).duties (barC c) 0 = {0, 1, 2} := duties_bar I c
theorem payload_dep (I : Dev nD → Ins F) (j : Fin 3) (c : Dev nD) (d : Fin 3) : (rd I).payload (cell 0 j c) 0 d = (anySlot partOut j c : sProp 𝕄) := payload_copy I c 0 j d
theorem payload_arr (I : Dev nD → Ins F) (j : Fin 3) (c : Dev nD) (d : Fin 3) : (rd I).payload (cell 1 j c) 0 d = slotAt partIn j c (sent (I (pv j c)) c) := payload_copy I c 1 j d
theorem payload_dep' (I : Dev nD → Ins F) (j : Fin 3) (c : Dev nD) (d : Fin 3) : (rd I).payload (cell 2 j c) 0 d = sumPts (share j) c (totalSent I c) := payload_copy I c 2 j d
theorem payload_arr' (I : Dev nD → Ins F) (j : Fin 3) (c : Dev nD) (d : Fin 3) : (rd I).payload (cell 3 j c) 0 d = slotAt sumIn j c (totalSent I (pv j c)) := payload_copy I c 3 j d

attribute [local sl_rounds] duties_bar' duties_copy amount_bar amount_copy expect_bar expect_copy payload_bar payload_dep payload_arr payload_dep' payload_arr'

/-- What a barrier's wait brings, taken apart. -/
theorem barPay_open (c : Dev nD) : (BI.sep (barPay c 0) (BI.sep (barPay c 1) (barPay c 2)) : sProp 𝕄) ⊢
    iprop((anySlot partIn 0 (nx 0 c) ∗ anySlot sumIn 0 (nx 0 c) ∗ reached ER (cell 1 0 (nx 0 c)) 0 ∗ reached ER (cell 3 0 (nx 0 c)) 0)
      ∗ (anySlot partIn 1 (nx 1 c) ∗ anySlot sumIn 1 (nx 1 c) ∗ reached ER (cell 1 1 (nx 1 c)) 0 ∗ reached ER (cell 3 1 (nx 1 c)) 0)
      ∗ (anySlot partIn 2 (nx 2 c) ∗ anySlot sumIn 2 (nx 2 c) ∗ reached ER (cell 1 2 (nx 2 c)) 0 ∗ reached ER (cell 3 2 (nx 2 c)) 0)) := by
  unfold barPay; exact .rfl

/-- The twelve counters of a device's copy cells at zero. -/
def zeros (c : Dev nD) : sProp 𝕄 :=
  iprop((semVal (cell 0 0 c) 0 ∗ semVal (cell 1 0 c) 0 ∗ semVal (cell 2 0 c) 0 ∗ semVal (cell 3 0 c) 0)
    ∗ (semVal (cell 0 1 c) 0 ∗ semVal (cell 1 1 c) 0 ∗ semVal (cell 2 1 c) 0 ∗ semVal (cell 3 1 c) 0)
    ∗ (semVal (cell 0 2 c) 0 ∗ semVal (cell 1 2 c) 0 ∗ semVal (cell 2 2 c) 0 ∗ semVal (cell 3 2 c) 0))

/-- A three-slot buffer whole, whatever it holds. -/
abbrev anyBuf (b : Memref sig .tc .vmem S3x256x1024 .bf16) (c : Dev nD) : sProp 𝕄 :=
  iprop(∃ g, b.view.loc (c : Thread nD τ) ↦[b.view.set]{fullShare} g)

/-- What the body leaves: every counter at zero, the arguments' windows as they were, the result's window at `outAt`, the scratch
buffers at some contents, nothing owed. -/
def bodyPost (I : Dev nD → Ins F) (c : Dev nD) : sProp 𝕄 :=
  iprop(semVal (barC c) 0 ∗ zeros c
    ∗ (pt c cc0_stg0_0 (I c).x ∗ pt c cc0_stg1_0 (I c).wq ∗ pt c cc0_stg2_0 (I c).kt ∗ pt c cc0_stg3_0 (I c).v ∗ pt c cc0_stg4_0 (I c).wo ∗ pt c cc0_stg5_0 (outAt I c))
    ∗ (∃ f, pt c cc0_scratch0 f) ∗ anyBuf partOut c ∗ anyBuf partIn c ∗ (∃ f, pt c cc0_scratch3 f) ∗ anyBuf sumIn c
    ∗ ∃ W, owes (c : Thread nD τ) (0 : CellTallies nD τ sig Unit) W)

set_option maxHeartbeats 2000000 in
/-- The body, run at a symbolic device. -/
theorem bodyRun (I : Dev nD → Ins F) (K : GSem nD τ sig → ℕ) (c : Dev nD) (W : Waits sig Unit) (Q : PUnit → sProp 𝕄)
    (f5 fb : Vec F S1024x1024 .f32) (p0 p1 p2 : Vec F S3x256x1024 .bf16) (so : Vec F S256x1024 .bf16) :
    iprop(levAts L lv ∗ records I K
      ∗ (atPos ER (barC c) 0 ∅ 0 ∗ cred (tallyAt (barC c) () 3) ∗ owes (c : Thread nD τ) (owesAll c) W)
      ∗ (tokens c 0 ∗ tokens c 1 ∗ tokens c 2) ∗ (opened c 0 ∗ opened c 1 ∗ opened c 2) ∗ (credits c 0 ∗ credits c 1 ∗ credits c 2)
      ∗ (barPay (nx 0 c) 2 ∗ barPay (nx 1 c) 1 ∗ barPay (nx 2 c) 0)
      ∗ (pt c cc0_stg0_0 (I c).x ∗ pt c cc0_stg1_0 (I c).wq ∗ pt c cc0_stg2_0 (I c).kt ∗ pt c cc0_stg3_0 (I c).v ∗ pt c cc0_stg4_0 (I c).wo ∗ pt c cc0_stg5_0 f5)
      ∗ pt c cc0_scratch0 fb ∗ slotPts partOut 0 c p0 ∗ slotPts partOut 1 c p1 ∗ slotPts partOut 2 c p2 ∗ pt c cc0_scratch3 so
      ∗ (bodyPost I c -∗ Q ⟨⟩))
    ⊢ wp frame (wpE (defs₀ (F := F)) 𝒱₀ c none) Set.univ bodyProg Q := by
  unfold tokens opened credits
  iintro ⟨#Hlev, #HR, ⟨HatB, HcB, HO⟩, ⟨⟨Ht0, HtD0, HtA0, HtDs0, HtAs0⟩, ⟨Ht1, HtD1, HtA1, HtDs1, HtAs1⟩, ⟨Ht2, HtD2, HtA2, HtDs2, HtAs2⟩⟩,
    ⟨⟨⟨HpD0, #HrD0⟩, ⟨HpA0, -⟩, ⟨HpDs0, #HrDs0⟩, ⟨HpAs0, -⟩⟩, ⟨⟨HpD1, #HrD1⟩, ⟨HpA1, -⟩, ⟨HpDs1, #HrDs1⟩, ⟨HpAs1, -⟩⟩, ⟨⟨HpD2, #HrD2⟩, ⟨HpA2, -⟩, ⟨HpDs2, #HrDs2⟩, ⟨HpAs2, -⟩⟩⟩,
    ⟨⟨HcA0, HcAs0⟩, ⟨HcA1, HcAs1⟩, ⟨HcA2, HcAs2⟩⟩, ⟨Hpay0, Hpay1, Hpay2⟩, ⟨H0, H1, H2, H3, H4, H5⟩, Hb, Hp0, Hp1, Hp2, Hso, Hk⟩
  ihave Hc := inv_bar I K c $$ HR
  icases Hc with ⟨#HIb, -⟩
  ihave Hc := inv_bar I K (nx 0 c) $$ HR
  icases Hc with ⟨#HI0, #HR0⟩
  ihave Hc := inv_bar I K (nx 1 c) $$ HR
  icases Hc with ⟨#HI1, #HR1⟩
  ihave Hc := inv_bar I K (nx 2 c) $$ HR
  icases Hc with ⟨#HI2, #HR2⟩
  have hd1 : (⟨k0_dev1 c, k0_dev1_lt c⟩ : Dev nD) = nx 0 c := Fin.ext (k0_dev1_eq c)
  have hd2 : (⟨k0_dev2 c, k0_dev2_lt c⟩ : Dev nD) = nx 1 c := Fin.ext (k0_dev2_eq c)
  have hd3 : (⟨k0_dev3 c, k0_dev3_lt c⟩ : Dev nD) = nx 2 c := Fin.ext (k0_dev3_eq c)
  have hmw := mayWait_bar (F := F) c
  have hr0 : Fin.rev (0 : Fin 3) = 2 := rfl
  have hr1 : Fin.rev (1 : Fin 3) = 1 := rfl
  have hr2 : Fin.rev (2 : Fin 3) = 0 := rfl
  rw [hr0, hr1, hr2]
  rw [show owesAll c = owesPart c + tallyAt (barC (nx 2 c)) () 1 + tallyAt (barC (nx 1 c)) () 1 + tallyAt (barC (nx 0 c)) () 1 from rfl]
  sl_exec_parts!
  clear hd1 hd2 hd3 hmw hr0 hr1 hr2
  have hb : (Memref.whole cc0_scratch0).view.writes (Elt F) (Memref.whole cc0_scratch0).view.junk bodyRun.sl.Hb_1 = (bias : Vec F S1024x1024 .f32) :=
    (Memref.write_access_unit_zero_univ (Elt F) cc0_scratch0 zeros2 inb_S1024x1024_S1024x1024_0_0 (Memref.whole cc0_scratch0).view.junk _).trans
      (bias_of rfl rfl rfl rfl rfl)
  have hf0 : (slot partOut 0).view.read (Elt F) (bodyRun.sl.Hp0_w1 I c p0) = sent (I c) (nx 0 c) :=
    slot_sent (I c) 0 (k0_off1_eq c 0) (k0_off1_inb c 0) hb p0 rfl
  ihave HB := barPay_open c $$ HatB_pay1
  icases HB with ⟨⟨Hd0, He0, #Hra0, #Hrs0⟩, ⟨Hd1, He1, #Hra1, #Hrs1⟩, ⟨Hd2, He2, #Hra2, #Hrs2⟩⟩
  rw [show owesPart c = owesSum c + tallyAt (cell 1 2 (nx 2 c)) () N + tallyAt (cell 1 1 (nx 1 c)) () N + tallyAt (cell 1 0 (nx 0 c)) () N from rfl]
  have hd4 : (⟨k0_dev4 c, k0_dev4_lt c⟩ : Dev nD) = nx 0 c := Fin.ext (k0_dev4_eq c)
  iapply (send_part I K c 0 hd4 hf0) $$ [HR Hp0 Hd0 HO HtD0 HtA0]
  · isplitr; · iexact HR
    isplitl [Hp0]; · iexact Hp0
    isplitl [Hd0]; · iexact Hd0
    isplitl [HO]; · iexact HO
    isplitl [HtD0]; · iexact HtD0
    isplitr; · iexact HrD0
    isplitl [HtA0]; · iexact HtA0
    iexact Hra0
  iintro ⟨HcD0, HO⟩
  clear hf0 hd4
  sl_exec_parts!
  have hf1 : (slot partOut 1).view.read (Elt F) (bodyRun.sl.Hp1_w1 I c p1) = sent (I c) (nx 1 c) :=
    slot_sent (I c) 1 (k0_off1_eq c 1) (k0_off1_inb c 1) hb p1 rfl
  have hd5 : (⟨k0_dev5 c, k0_dev5_lt c⟩ : Dev nD) = nx 1 c := Fin.ext (k0_dev5_eq c)
  iapply (send_part I K c 1 hd5 hf1) $$ [HR Hp1 Hd1 HO HtD1 HtA1]
  · isplitr; · iexact HR
    isplitl [Hp1]; · iexact Hp1
    isplitl [Hd1]; · iexact Hd1
    isplitl [HO]; · iexact HO
    isplitl [HtD1]; · iexact HtD1
    isplitr; · iexact HrD1
    isplitl [HtA1]; · iexact HtA1
    iexact Hra1
  iintro ⟨HcD1, HO⟩
  clear hf1 hd5
  sl_exec_parts!
  have hf2 : (slot partOut 2).view.read (Elt F) (bodyRun.sl.Hp2_w1 I c p2) = sent (I c) (nx 2 c) :=
    slot_sent (I c) 2 (k0_off1_eq c 2) (k0_off1_inb c 2) hb p2 rfl
  have hd6 : (⟨k0_dev6 c, k0_dev6_lt c⟩ : Dev nD) = nx 2 c := Fin.ext (k0_dev6_eq c)
  iapply (send_part I K c 2 hd6 hf2) $$ [HR Hp2 Hd2 HO HtD2 HtA2]
  · isplitr; · iexact HR
    isplitl [Hp2]; · iexact Hp2
    isplitl [Hd2]; · iexact Hd2
    isplitl [HO]; · iexact HO
    isplitl [HtD2]; · iexact HtD2
    isplitr; · iexact HrD2
    isplitl [HtA2]; · iexact HtA2
    iexact Hra2
  iintro ⟨HcD2, HO⟩
  clear hf2 hd6
  ihave Hc := inv_copy I K 0 0 c $$ HR
  icases Hc with #HiD0
  ihave Hc := inv_copy I K 0 1 c $$ HR
  icases Hc with #HiD1
  ihave Hc := inv_copy I K 0 2 c $$ HR
  icases Hc with #HiD2
  ihave Hc := inv_copy I K 1 0 c $$ HR
  icases Hc with #HiA0
  ihave Hc := inv_copy I K 1 1 c $$ HR
  icases Hc with #HiA1
  ihave Hc := inv_copy I K 1 2 c $$ HR
  icases Hc with #HiA2
  ihave Hc := inv_copy I K 2 0 c $$ HR
  icases Hc with #HiDs0
  ihave Hc := inv_copy I K 2 1 c $$ HR
  icases Hc with #HiDs1
  ihave Hc := inv_copy I K 2 2 c $$ HR
  icases Hc with #HiDs2
  ihave Hc := inv_copy I K 3 0 c $$ HR
  icases Hc with #HiAs0
  ihave Hc := inv_copy I K 3 1 c $$ HR
  icases Hc with #HiAs1
  ihave Hc := inv_copy I K 3 2 c $$ HR
  icases Hc with #HiAs2
  have hm0 := mayWait_part (F := F) 0 c
  have hm1 := mayWait_part (F := F) 1 c
  have hm2 := mayWait_part (F := F) 2 c
  sl_exec_parts!
  clear hm0 hm1 hm2
  have hs : (Memref.whole cc0_scratch3).view.writes (Elt F) (Memref.whole cc0_scratch3).view.junk (bodyRun.sl.Hso_1 I c) = totalSent I c :=
    (Memref.write_access_unit_zero_univ (Elt F) cc0_scratch3 zeros2 inb_S256x1024_S256x1024_0_0 (Memref.whole cc0_scratch3).view.junk _).trans
      ((shapeCast_self _ _).trans (congrArg (fun t => truncf .bf16 t bitsLt_bf16_f32)
        (total_loaded I c (k0_off2_eq c) (k0_off2_inb c) hb rfl)))
  rw [hs]
  ihave Hs := sum_split c (totalSent I c) $$ Hso
  icases Hs with ⟨Hs0, Hs1, Hs2⟩
  rw [show owesSum c = 0 + tallyAt (cell 3 2 (nx 2 c)) () N + tallyAt (cell 3 1 (nx 1 c)) () N + tallyAt (cell 3 0 (nx 0 c)) () N from rfl]
  have hd7 : (⟨k0_dev7 c, k0_dev7_lt c⟩ : Dev nD) = nx 0 c := Fin.ext (k0_dev7_eq c)
  iapply (send_sum I K c 0 hd7) $$ [HR Hs0 He0 HO HtDs0 HtAs0]
  · isplitr; · iexact HR
    isplitl [Hs0]; · iexact Hs0
    isplitl [He0]; · iexact He0
    isplitl [HO]; · iexact HO
    isplitl [HtDs0]; · iexact HtDs0
    isplitr; · iexact HrDs0
    isplitl [HtAs0]; · iexact HtAs0
    iexact Hrs0
  iintro ⟨HcDs0, HO⟩
  clear hd7
  sl_exec_parts!
  have hd8 : (⟨k0_dev8 c, k0_dev8_lt c⟩ : Dev nD) = nx 1 c := Fin.ext (k0_dev8_eq c)
  iapply (send_sum I K c 1 hd8) $$ [HR Hs1 He1 HO HtDs1 HtAs1]
  · isplitr; · iexact HR
    isplitl [Hs1]; · iexact Hs1
    isplitl [He1]; · iexact He1
    isplitl [HO]; · iexact HO
    isplitl [HtDs1]; · iexact HtDs1
    isplitr; · iexact HrDs1
    isplitl [HtAs1]; · iexact HtAs1
    iexact Hrs1
  iintro ⟨HcDs1, HO⟩
  clear hd8
  sl_exec_parts!
  have hd9 : (⟨k0_dev9 c, k0_dev9_lt c⟩ : Dev nD) = nx 2 c := Fin.ext (k0_dev9_eq c)
  iapply (send_sum I K c 2 hd9) $$ [HR Hs2 He2 HO HtDs2 HtAs2]
  · isplitr; · iexact HR
    isplitl [Hs2]; · iexact Hs2
    isplitl [He2]; · iexact He2
    isplitl [HO]; · iexact HO
    isplitl [HtDs2]; · iexact HtDs2
    isplitr; · iexact HrDs2
    isplitl [HtAs2]; · iexact HtAs2
    iexact Hrs2
  iintro ⟨HcDs2, HO⟩
  clear hd9
  sl_exec_parts!
  have ho : (Memref.whole cc0_stg5_0).view.writes (Elt F) f5 (⟨Rect.unit (s := S1024x1024) (k0_off3 c 2#32) S256x1024.size (k0_off3_inb c 2), bodyRun.sl.v933 I c⟩ :: bodyRun.sl.H5_3 I c) = outAt I c :=
    out_written I c f5 (k0_off2_eq c) (k0_off3_eq c 0) (k0_off3_eq c 1) (k0_off3_eq c 2) (k0_off2_inb c) (k0_off3_inb c 0) (k0_off3_inb c 1) (k0_off3_inb c 2)
      (total_loaded I c (k0_off2_eq c) (k0_off2_inb c) hb rfl) (sum_loaded I 0 c rfl) (sum_loaded I 1 c rfl) (sum_loaded I 2 c rfl)
  rw [ho, hb]
  clear ho hb hs
  rw [wp_ret]
  imod (close I (K (barC c)) (barC c)) $$ [HatB] with HzB
  · isplitr; · iexact HIb
    iexact HatB
  imod (close I (K (cell 0 0 c)) (cell 0 0 c)) $$ [HpD0] with HzD0
  · isplitr; · iexact HiD0
    iexact HpD0
  imod (close I (K (cell 1 0 c)) (cell 1 0 c)) $$ [HpA0] with HzA0
  · isplitr; · iexact HiA0
    iexact HpA0
  imod (close I (K (cell 2 0 c)) (cell 2 0 c)) $$ [HpDs0] with HzDs0
  · isplitr; · iexact HiDs0
    iexact HpDs0
  imod (close I (K (cell 3 0 c)) (cell 3 0 c)) $$ [HpAs0] with HzAs0
  · isplitr; · iexact HiAs0
    iexact HpAs0
  imod (close I (K (cell 0 1 c)) (cell 0 1 c)) $$ [HpD1] with HzD1
  · isplitr; · iexact HiD1
    iexact HpD1
  imod (close I (K (cell 1 1 c)) (cell 1 1 c)) $$ [HpA1] with HzA1
  · isplitr; · iexact HiA1
    iexact HpA1
  imod (close I (K (cell 2 1 c)) (cell 2 1 c)) $$ [HpDs1] with HzDs1
  · isplitr; · iexact HiDs1
    iexact HpDs1
  imod (close I (K (cell 3 1 c)) (cell 3 1 c)) $$ [HpAs1] with HzAs1
  · isplitr; · iexact HiAs1
    iexact HpAs1
  imod (close I (K (cell 0 2 c)) (cell 0 2 c)) $$ [HpD2] with HzD2
  · isplitr; · iexact HiD2
    iexact HpD2
  imod (close I (K (cell 1 2 c)) (cell 1 2 c)) $$ [HpA2] with HzA2
  · isplitr; · iexact HiA2
    iexact HpA2
  imod (close I (K (cell 2 2 c)) (cell 2 2 c)) $$ [HpDs2] with HzDs2
  · isplitr; · iexact HiDs2
    iexact HpDs2
  imod (close I (K (cell 3 2 c)) (cell 3 2 c)) $$ [HpAs2] with HzAs2
  · isplitr; · iexact HiAs2
    iexact HpAs2
  imodintro
  iapply Hk
  unfold bodyPost zeros
  isplitl [HzB]; · iexact HzB
  isplitl [HzD0 HzA0 HzDs0 HzAs0 HzD1 HzA1 HzDs1 HzAs1 HzD2 HzA2 HzDs2 HzAs2]
  · isplitl [HzD0 HzA0 HzDs0 HzAs0]
    · isplitl [HzD0]; · iexact HzD0
      isplitl [HzA0]; · iexact HzA0
      isplitl [HzDs0] <;> iassumption
    isplitl [HzD1 HzA1 HzDs1 HzAs1]
    · isplitl [HzD1]; · iexact HzD1
      isplitl [HzA1]; · iexact HzA1
      isplitl [HzDs1] <;> iassumption
    isplitl [HzD2]; · iexact HzD2
    isplitl [HzA2]; · iexact HzA2
    isplitl [HzDs2] <;> iassumption
  isplitl [H0 H1 H2 H3 H4 H5]
  · isplitl [H0]; · iexact H0
    isplitl [H1]; · iexact H1
    isplitl [H2]; · iexact H2
    isplitl [H3]; · iexact H3
    isplitl [H4] <;> iassumption
  isplitl [Hb]; · iexists _; iexact Hb
  isplitl [HpD0_pay1 HpD1_pay1 HpD2_pay1]
  · iapply (slots_join partOut c p0)
    isplitl [HpD0_pay1]; · iexact HpD0_pay1
    isplitl [HpD1_pay1] <;> iassumption
  isplitl [HpA0_pay1 HpA1_pay1 HpA2_pay1]
  · iapply (slots_join partIn c p0)
    unfold anySlot
    isplitl [HpA0_pay1]; · iexists _; iexact HpA0_pay1
    isplitl [HpA1_pay1]; · iexists _; iexact HpA1_pay1
    iexists _; iexact HpA2_pay1
  isplitl [HpDs0_pay1 HpDs1_pay1 HpDs2_pay1]
  · iexists (totalSent I c)
    iapply (sum_join c (totalSent I c))
    isplitl [HpDs0_pay1]; · iexact HpDs0_pay1
    isplitl [HpDs1_pay1] <;> iassumption
  isplitl [HpAs0_pay1 HpAs1_pay1 HpAs2_pay1]
  · iapply (slots_join sumIn c p0)
    unfold anySlot
    isplitl [HpAs0_pay1]; · iexists _; iexact HpAs0_pay1
    isplitl [HpAs1_pay1]; · iexists _; iexact HpAs1_pay1
    iexists _; iexact HpAs2_pay1
  iexists _; iexact HO

end Cert.KernelIdeal.Hand
end
-- ==== Proof.KernelIdeal.Region.lean ====
/-
  The kernel's call as a step of the program: what each device brings to it and takes from it, and the body's run put between the
  two.
-/
module

public import proofs.«01_k».proof.Proof.KernelIdeal.Body
public import proofs.«01_k».proof.Proof.Gen.KernelIdeal.Launch
public import proofs.«01_k».proof.Proof.Gen.KernelIdeal.Points
public import proofs.«01_k».proof.Proof.Gen.KernelIdeal.Regions

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-- The kernel's operands on device `c`, as the host's operations leave them. -/
def ins (c : Dev nD) : Ins F := ⟨V1 m c main_v5, V1 m c main_arg1, V1 m c main_v18, V1 m c main_v19, V1 m c main_arg4⟩

/-- What the call leaves: its result at `outAt`, nothing else changed. -/
def outs : Outs (F := F) := fun _ r c => Function.update (V1 m c) main_v20 (outAt (ins m) c) r

theorem outs_v20 (c : Dev nD) : outs m 2 main_v20 c = outAt (ins m) c := Function.update_self ..

/-! ## What a device brings and takes -/

/-- The rights to open the four cells of copy `j`. -/
def rights (c : Dev nD) (j : Fin 3) : sProp 𝕄 :=
  iprop(openTok ER (cell 0 j c) ∗ openTok ER (cell 1 j c) ∗ openTok ER (cell 2 j c) ∗ openTok ER (cell 3 j c))

/-- The device's position at its barrier and the credit to wait there. -/
def atBar (c : Dev nD) : sProp 𝕄 := iprop(atPos ER (barC c) 0 ∅ 0 ∗ cred (tallyAt (barC c) () 3))

/-- What a device keeps from the launch to the call. -/
def Tk (c : Dev nD) : sProp 𝕄 :=
  iprop(∃ K, records (ins m) K ∗ atBar c ∗ (tokens c 0 ∗ tokens c 1 ∗ tokens c 2) ∗ (rights c 0 ∗ rights c 1 ∗ rights c 2)
    ∗ (credits c 0 ∗ credits c 1 ∗ credits c 2))
/-- The same once its copy cells are open. -/
def Xk (c : Dev nD) : sProp 𝕄 :=
  iprop(∃ K, levAts L lv ∗ records (ins m) K ∗ atBar c ∗ (tokens c 0 ∗ tokens c 1 ∗ tokens c 2) ∗ (opened c 0 ∗ opened c 1 ∗ opened c 2)
    ∗ (credits c 0 ∗ credits c 1 ∗ credits c 2))
/-- What it has left after: its barrier's counter at zero. -/
def Yk (c : Dev nD) : sProp 𝕄 := semVal (barC c) 0

/-- The scratch buffers, each whole at some contents. -/
def scratch (c : Dev nD) : sProp 𝕄 :=
  iprop((∃ f, pt c cc0_scratch0 f) ∗ (∃ f, pt c cc0_scratch1 f) ∗ (∃ f, pt c cc0_scratch2 f) ∗ (∃ f, pt c cc0_scratch3 f) ∗ (∃ f, pt c cc0_scratch4 f))

theorem scratch_eq (c : Dev nD) :
    (Pipeline.scopedRest (Ix := Unit) (Name := ℕ) (U := UU) (Lvl := ℕ) (Val := Elt F) spec0 c : sProp 𝕄) = scratch c :=
  scopedRest0_eq c

/-! ## The copy cells, listed and opened -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Something of every copy cell, listed copy by copy. -/
theorem bigSep_copies (Φ : Fin 4 × Fin 3 → sProp 𝕄) : bigSep Finset.univ Φ
    = iprop((Φ (0, 0) ∗ Φ (1, 0) ∗ Φ (2, 0) ∗ Φ (3, 0)) ∗ (Φ (0, 1) ∗ Φ (1, 1) ∗ Φ (2, 1) ∗ Φ (3, 1)) ∗ (Φ (0, 2) ∗ Φ (1, 2) ∗ Φ (2, 2) ∗ Φ (3, 2))) := by
  rw [bigSep_univ_equiv (Equiv.prodComm (Fin 3) (Fin 4)) Φ, bigSep_univ_prod, Ring.bigSep_fin3, bigSep_fin4, bigSep_fin4, bigSep_fin4]
  rfl

theorem ownSems_eq (c : Dev nD) : (Pipeline.ownSems0 osem c : sProp 𝕄) = zeros c := by
  unfold Pipeline.ownSems0 zeros
  rw [bigSep_copies]

/-- One copy cell opened with its counter. -/
theorem open_cell (I : Dev nD → Ins F) (K : GSem nD τ sig → ℕ) (k : Fin 4) (j : Fin 3) (c : Dev nD) :
    iprop(records I K ∗ openTok ER (cell k j c) ∗ semVal (cell k j c) 0)
      ⊢ (|={Set.univ}=> iprop(atPos ER (cell k j c) 0 ∅ 0 ∗ reached ER (cell k j c) 0) : sProp 𝕄) := by
  iintro ⟨HR, Ho, Hs⟩
  ihave HI := (inv_copy I K k j c) $$ HR
  iapply (Rounds.cell_open ER (rd I) (g := cell k j c) (Set.mem_univ (K (cell k j c))))
  isplitl [HI]; · iexact HI
  isplitl [Ho] <;> iassumption

/-- The four cells of copy `j` opened. -/
theorem open_copy (I : Dev nD → Ins F) (K : GSem nD τ sig → ℕ) (j : Fin 3) (c : Dev nD) :
    iprop(records I K ∗ rights c j ∗ semVal (cell 0 j c) 0 ∗ semVal (cell 1 j c) 0 ∗ semVal (cell 2 j c) 0 ∗ semVal (cell 3 j c) 0)
      ⊢ (|={Set.univ}=> opened c j : sProp 𝕄) := by
  unfold rights opened
  iintro ⟨#HR, ⟨Ho0, Ho1, Ho2, Ho3⟩, Hs0, Hs1, Hs2, Hs3⟩
  imod (open_cell I K 0 j c) $$ [Ho0 Hs0] with H0
  · isplitr; · iexact HR
    isplitl [Ho0] <;> iassumption
  imod (open_cell I K 1 j c) $$ [Ho1 Hs1] with H1
  · isplitr; · iexact HR
    isplitl [Ho1] <;> iassumption
  imod (open_cell I K 2 j c) $$ [Ho2 Hs2] with H2
  · isplitr; · iexact HR
    isplitl [Ho2] <;> iassumption
  imod (open_cell I K 3 j c) $$ [Ho3 Hs3] with H3
  · isplitr; · iexact HR
    isplitl [Ho3] <;> iassumption
  imodintro
  isplitl [H0]; · iexact H0
  isplitl [H1]; · iexact H1
  isplitl [H2] <;> iassumption

/-- The call's entry: every copy cell opened with its counter. -/
theorem entry (c : Dev nD) : iprop(Tk m c ∗ Pipeline.ownSems0 osem c ∗ levAts L lv) ⊢ (|={Set.univ}=> Xk m c : sProp 𝕄) := by
  rw [ownSems_eq]
  unfold Tk Xk zeros
  iintro ⟨⟨%K, #HR, Hb, Ht, ⟨Hr0, Hr1, Hr2⟩, Hc⟩, ⟨Hz0, Hz1, Hz2⟩, Hlev⟩
  imod (open_copy (ins m) K 0 c) $$ [Hr0 Hz0] with H0
  · isplitr; · iexact HR
    isplitl [Hr0] <;> iassumption
  imod (open_copy (ins m) K 1 c) $$ [Hr1 Hz1] with H1
  · isplitr; · iexact HR
    isplitl [Hr1] <;> iassumption
  imod (open_copy (ins m) K 2 c) $$ [Hr2 Hz2] with H2
  · isplitr; · iexact HR
    isplitl [Hr2] <;> iassumption
  imodintro
  iexists K
  isplitl [Hlev]; · iexact Hlev
  isplitr; · iexact HR
  isplitl [Hb]; · iexact Hb
  isplitl [Ht]; · iexact Ht
  isplitl [H0 H1 H2]
  · isplitl [H0]; · iexact H0
    isplitl [H1] <;> iassumption
  iexact Hc

/-- What a barrier signal to `nx j c` hands over: the two slots of device `c` that `nx j c` may write. -/
theorem barPay_intro (c : Dev nD) (j : Fin 3) (f g : Vec F S3x256x1024 .bf16) :
    iprop(slotPts partIn (Fin.rev j) c f ∗ slotPts sumIn (Fin.rev j) c g ∗ reached ER (cell 1 (Fin.rev j) c) 0 ∗ reached ER (cell 3 (Fin.rev j) c) 0)
      ⊢ (barPay (nx j c) (Fin.rev j) : sProp 𝕄) := by
  unfold barPay anySlot
  rw [nx_nx]
  iintro ⟨H1, H2, H3, H4⟩
  isplitl [H1]; · iexists f; iexact H1
  isplitl [H2]; · iexists g; iexact H2
  isplitl [H3] <;> iassumption

/-! ## The proof data -/

/-- The windows, before and after the body's one point. -/
def dat (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).kt
    | ⟨3, _⟩ => (ins m c).v
    | ⟨4, _⟩ => (ins m c).wo
    | ⟨5, _⟩ => outAt (ins m) c
  Φ t := if t.val = 0 then iprop(Xk m c ∗ scratch c ∗ ∃ r, prngReg c r) else iprop(Yk c ∗ zeros c ∗ scratch c ∗ ∃ r, prngReg c r)
  q _ := fullShare
  owed t := if t.val = 0 then owesAll c else 0

def pdats : (p : Fin 1) → (c : Dev nD) → Dat τ (Elt F) Unit ℕ UU ℕ (cfgs p) c := fun | 0 => dat m

theorem owed_zero (c : Dev nD) : (dat m c).owed 0 = owesAll c := by
  show (if ((0 : Fin (cfg0.N + 1)).val = 0) then owesAll c else 0) = owesAll c
  exact if_pos rfl
theorem owed_last (c : Dev nD) : (dat m c).owed (Fin.last cfg0.N) = 0 := by
  show (if (Fin.last cfg0.N).val = 0 then owesAll c else 0) = 0
  rw [Fin.val_last, if_neg (by rw [show cfg0.N = 1 from N_0]; decide)]

theorem before_in (c : Dev nD) (w : Fin 6) (hw : (cfg0.win w).fetch t0_0 = true) (d) :
    (dat m c).before w t0_0 d = (dat m c).fetched w t0_0 d := by
  unfold Dat.before; rw [if_pos hw]

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : (stg c b X : sProp 𝕄) ⊢ pt c b X := by
  iintro ⟨%f, %h, H⟩
  subst h
  iexact H
theorem stg_intro (c : Dev nD) (b : Ref sig .tc) (X : b.ty.Contents (Elt F)) : (pt c b X : sProp 𝕄) ⊢ stg c b X := by
  iintro H
  iexists X
  isplitr; · ipureintro; rfl
  iexact H

/-- The rectangle of all of a shape leaves an index where it is. -/
theorem emb_all {s : Shape} (off : Fin s.rank → ℕ) (inb : ∀ a, off a + s.size a ≤ s.size a) (h : ∀ a, off a = 0) (j : s.Idx) :
    (Rect.unit (s := s) off s.size inb).emb j = j := by
  funext a
  apply Fin.ext
  rw [Rect.emb_apply]
  show off a + 1 * (j a).val = (j a).val
  rw [h a, Nat.zero_add, Nat.one_mul]

/-- What a fetch of a whole array puts in the window. -/
theorem fetched_at (c : Dev nD) (w : Fin 6) (d) (X : (cfg0.win w).block.Idx → Elt F (cfg0.win w).elt)
    (hc : ∀ (j : (cfg0.win w).block.Idx) (a), (j a).val < (cfg0.win w).xsize (cfg0.grid.coords t0_0) a)
    (h : ∀ j, (dat m c).blockOf w t0_0 (fun a => ⟨(j a).val, hc j a⟩) = X j) :
    (dat m c).fetched w t0_0 d = X := by
  funext j
  unfold Dat.fetched Pipeline.Window.fill
  rw [dif_pos ((Pipeline.Window.moved_iff _ _ j).mpr (hc j))]
  exact h j

theorem before_x (c : Dev nD) (d) : (dat m c).before (0 : Fin 6) t0_0 d = (ins m c).x :=
  (before_in m c 0 (fetch0_0 _) d).trans <| fetched_at m c 0 d _ (fun j a => (j a).isLt) fun j =>
    congrArg (V1 m c main_v5) (emb_all (s := S1024x1024) _ _ (fun _ => Nat.zero_mul _) j)
theorem before_wq (c : Dev nD) (d) : (dat m c).before (1 : Fin 6) t0_0 d = (ins m c).wq :=
  (before_in m c 1 (fetch0_1 _) d).trans <| fetched_at m c 1 d _ (fun j a => (j a).isLt) fun j =>
    congrArg (V1 m c main_arg1) (emb_all (s := S1024x1024) _ _ (fun _ => Nat.zero_mul _) j)
theorem before_kt (c : Dev nD) (d) : (dat m c).before (2 : Fin 6) t0_0 d = (ins m c).kt :=
  (before_in m c 2 (fetch0_2 _) d).trans <| fetched_at m c 2 d _ (fun j a => (j a).isLt) fun j =>
    congrArg (V1 m c main_v18) (emb_all (s := S8x128x1024) _ _ (fun _ => Nat.zero_mul _) j)
theorem before_v (c : Dev nD) (d) : (dat m c).before (3 : Fin 6) t0_0 d = (ins m c).v :=
  (before_in m c 3 (fetch0_3 _) d).trans <| fetched_at m c 3 d _ (fun j a => (j a).isLt) fun j =>
    congrArg (V1 m c main_v19) (emb_all (s := S8x1024x128) _ _ (fun _ => Nat.zero_mul _) j)
theorem before_wo (c : Dev nD) (d) : (dat m c).before (4 : Fin 6) t0_0 d = (ins m c).wo :=
  (before_in m c 4 (fetch0_4 _) d).trans <| fetched_at m c 4 d _ (fun j a => (j a).isLt) fun j =>
    congrArg (V1 m c main_arg4) (emb_all (s := S1024x1024) _ _ (fun _ => Nat.zero_mul _) j)

/-- The result's array after the call: what the body left in the window. -/
theorem arr_out (c : Dev nD) : (dat m c).arrAt (5 : Fin 6) cfg0.N = outAt (ins m) c := by
  have h : ((cfg0.win (5 : Fin 6)).blk t0_0).view.read (Elt F) ((dat m c).arrAt (5 : Fin 6) cfg0.N) = outAt (ins m) c := by
    rw [show cfg0.N = t0_0.val + 1 from rfl, (dat m c).arrAt_succ (5 : Fin 6) t0_0, if_pos (flush0_5 _)]
    exact View.read_write_univ _ _
  funext j
  have := congrFun h j
  rw [View.read_apply] at this
  refine Eq.trans ?_ this
  exact congrArg ((dat m c).arrAt (5 : Fin 6) cfg0.N) (emb_all (s := S1024x1024) _ _ (fun _ => Nat.zero_mul _) j).symm

/-! ## The body between its invariants -/

/-- A three-slot buffer held whole is held on its elements. -/
theorem buf_split (b : Ref sig .tc) (c : Dev nD) (f : Buf (Elt F) ((c : Thread nD τ).loc b)) :
    (pt c b f : sProp 𝕄) ⊢ (((c : Thread nD τ).loc b) ↦[(Memref.whole b).view.set]{fullShare} f) := by
  simp only [Memref.view_whole, View.set_whole]
  exact .rfl
theorem buf_join (b : Ref sig .tc) (c : Dev nD) :
    (iprop(∃ g, (((c : Thread nD τ).loc b) ↦[(Memref.whole b).view.set]{fullShare} g)) : sProp 𝕄) ⊢ iprop(∃ f, pt c b f) := by
  simp only [Memref.view_whole, View.set_whole]
  exact .rfl

/-- The body's obligation: from the invariant at its first point to the invariant at its last. -/
theorem body (c : Dev nD) : BodyObligation (dat m c) (defs₀ (F := F)) 𝒱₀ () Set.univ := fun t => by
  rw [fin_N0 t]
  rw [bigSep_W0, bigSep_W0]
  simp only [owns_whole_eq]
  show iprop((Xk m c ∗ scratch c ∗ ∃ r, prngReg c r) ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
    ⊢ wp frame (wpE (defs₀ (F := F)) 𝒱₀ c none) Set.univ bodyProg fun _ =>
      iprop((Yk c ∗ zeros c ∗ scratch c ∗ ∃ r, prngReg c r) ∗ (dat m c).owesAt () t0_0.succ
        ∗ stg c cc0_stg0_0 (ins m c).x ∗ stg c cc0_stg1_0 (ins m c).wq ∗ stg c cc0_stg2_0 (ins m c).kt
        ∗ stg c cc0_stg3_0 (ins m c).v ∗ stg c cc0_stg4_0 (ins m c).wo ∗ stg c cc0_stg5_0 (outAt (ins m) c))
  simp only [before_x, before_wq, before_kt, before_v, before_wo]
  unfold Xk atBar scratch Dat.owesAt Pipeline.owesWithin
  rw [show (dat m c).owed t0_0.castSucc = owesAll c from owed_zero m c, show (dat m c).owed t0_0.succ = 0 from owed_last m c]
  iintro ⟨⟨⟨%K, Hlev, #HR, ⟨Hat, Hcr⟩, Ht, Hop, Hcs⟩, ⟨⟨%f0, Hs0⟩, ⟨%f1, Hs1⟩, ⟨%f2, Hs2⟩, ⟨%f3, Hs3⟩, ⟨%f4, Hs4⟩⟩, Hp⟩, ⟨%W, -, HO⟩,
    ⟨%_, H0⟩, ⟨%_, H1⟩, ⟨%_, H2⟩, ⟨%_, H3⟩, ⟨%_, H4⟩, ⟨%_, ⟨%f5, -, H5⟩⟩⟩
  ihave H0 := (stg_elim c cc0_stg0_0 (ins m c).x) $$ H0
  ihave H1 := (stg_elim c cc0_stg1_0 (ins m c).wq) $$ H1
  ihave H2 := (stg_elim c cc0_stg2_0 (ins m c).kt) $$ H2
  ihave H3 := (stg_elim c cc0_stg3_0 (ins m c).v) $$ H3
  ihave H4 := (stg_elim c cc0_stg4_0 (ins m c).wo) $$ H4
  ihave Hs1 := ((buf_split cc0_scratch1 c f1).trans (slots_split partOut c f1)) $$ Hs1
  icases Hs1 with ⟨Ha0, Ha1, Ha2⟩
  ihave Hs2 := ((buf_split cc0_scratch2 c f2).trans (slots_split partIn c f2)) $$ Hs2
  icases Hs2 with ⟨Hb0, Hb1, Hb2⟩
  ihave Hs4 := ((buf_split cc0_scratch4 c f4).trans (slots_split sumIn c f4)) $$ Hs4
  icases Hs4 with ⟨Hd0, Hd1, Hd2⟩
  unfold opened
  icases Hop with ⟨⟨Hx0, ⟨Hy0, #Hr0⟩, Hz0, ⟨Hw0, #Hq0⟩⟩, ⟨Hx1, ⟨Hy1, #Hr1⟩, Hz1, ⟨Hw1, #Hq1⟩⟩, ⟨Hx2, ⟨Hy2, #Hr2⟩, Hz2, ⟨Hw2, #Hq2⟩⟩⟩
  iapply (bodyRun (ins m) K c W _ f5 f0 f1 f1 f1 f3)
  unfold opened
  isplitl [Hlev]; · iexact Hlev
  isplitr; · iexact HR
  isplitl [Hat Hcr HO]
  · isplitl [Hat]; · iexact Hat
    isplitl [Hcr] <;> iassumption
  isplitl [Ht]; · iexact Ht
  isplitl [Hx0 Hy0 Hz0 Hw0 Hx1 Hy1 Hz1 Hw1 Hx2 Hy2 Hz2 Hw2]
  · isplitl [Hx0 Hy0 Hz0 Hw0]
    · isplitl [Hx0]; · iexact Hx0
      isplitl [Hy0]
      · isplitl; · iexact Hy0
        iexact Hr0
      isplitl [Hz0]; · iexact Hz0
      isplitl; · iexact Hw0
      iexact Hq0
    isplitl [Hx1 Hy1 Hz1 Hw1]
    · isplitl [Hx1]; · iexact Hx1
      isplitl [Hy1]
      · isplitl; · iexact Hy1
        iexact Hr1
      isplitl [Hz1]; · iexact Hz1
      isplitl; · iexact Hw1
      iexact Hq1
    isplitl [Hx2]; · iexact Hx2
    isplitl [Hy2]
    · isplitl; · iexact Hy2
      iexact Hr2
    isplitl [Hz2]; · iexact Hz2
    isplitl; · iexact Hw2
    iexact Hq2
  isplitl [Hcs]; · iexact Hcs
  isplitl [Hb0 Hb1 Hb2 Hd0 Hd1 Hd2]
  · isplitl [Hb2 Hd2]
    · iapply (barPay_intro c 0 f2 f4)
      isplitl [Hb2]; · iexact Hb2
      isplitl [Hd2]; · iexact Hd2
      isplitr; · iexact Hr2
      iexact Hq2
    isplitl [Hb1 Hd1]
    · iapply (barPay_intro c 1 f2 f4)
      isplitl [Hb1]; · iexact Hb1
      isplitl [Hd1]; · iexact Hd1
      isplitr; · iexact Hr1
      iexact Hq1
    iapply (barPay_intro c 2 f2 f4)
    isplitl [Hb0]; · iexact Hb0
    isplitl [Hd0]; · iexact Hd0
    isplitr; · iexact Hr0
    iexact Hq0
  isplitl [H0 H1 H2 H3 H4 H5]
  · isplitl [H0]; · iexact H0
    isplitl [H1]; · iexact H1
    isplitl [H2]; · iexact H2
    isplitl [H3]; · iexact H3
    isplitl [H4] <;> iassumption
  isplitl [Hs0]; · iexact Hs0
  isplitl [Ha0]; · iexact Ha0
  isplitl [Ha1]; · iexact Ha1
  isplitl [Ha2]; · iexact Ha2
  isplitl [Hs3]; · iexact Hs3
  unfold bodyPost Yk
  iintro ⟨Hbar, Hz, ⟨H0, H1, H2, H3, H4, H5⟩, Hs0, Hs1, Hs2, Hs3, Hs4, ⟨%W', HO⟩⟩
  isplitl [Hbar Hz Hs0 Hs1 Hs2 Hs3 Hs4 Hp]
  · isplitl [Hbar]; · iexact Hbar
    isplitl [Hz]; · iexact Hz
    isplitl [Hs0 Hs1 Hs2 Hs3 Hs4]
    · isplitl [Hs0]; · iexact Hs0
      isplitl [Hs1]; · iapply (buf_join cc0_scratch1 c); iexact Hs1
      isplitl [Hs2]; · iapply (buf_join cc0_scratch2 c); iexact Hs2
      isplitl [Hs3]; · iexact Hs3
      iapply (buf_join cc0_scratch4 c); iexact Hs4
    iexact Hp
  isplitl [HO]
  · iexists W'
    isplitr; · ipureintro; exact fun _ _ => Or.inl trivial
    iexact HO
  isplitl [H0]; · iapply (stg_intro c cc0_stg0_0 (ins m c).x); iexact H0
  isplitl [H1]; · iapply (stg_intro c cc0_stg1_0 (ins m c).wq); iexact H1
  isplitl [H2]; · iapply (stg_intro c cc0_stg2_0 (ins m c).kt); iexact H2
  isplitl [H3]; · iapply (stg_intro c cc0_stg3_0 (ins m c).v); iexact H3
  isplitl [H4]; · iapply (stg_intro c cc0_stg4_0 (ins m c).wo); iexact H4
  iapply (stg_intro c cc0_stg5_0 (outAt (ins m) c)); iexact H5

/-! ## The call as a step -/

theorem share_eq (c : Dev nD) (w : Fin cfg0.W) : (pdats m 0 c).share w = fullShare := by
  show (dat m c).share w = fullShare
  unfold Dat.share; split <;> rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the call does not touch. -/
abbrev others : Finset (DevRef τ sig) := Pipeline.ucRefs τ sig \ Pipeline.arrRefs spec0

theorem hin (c : Dev nD) : iprop(Pipeline.scopedRest (Pipeline.pin (pcfgs (F := F)) adm 0).spec c ∗ (∃ r, prngReg c r)
      ∗ StableHlo.held (c.tc : Thread nD τ) ∅ (V1 m c) ∗ Xk m c)
    ⊢ (pdats m 0 c).Φ 0 := by
  rw [show (pdats m 0 c).Φ 0 = iprop(Xk m c ∗ scratch c ∗ ∃ r, prngReg c r) from rfl]
  show iprop(Pipeline.scopedRest spec0 c ∗ (∃ r, prngReg c r) ∗ StableHlo.held (c.tc : Thread nD τ) ∅ (V1 m c) ∗ Xk m c) ⊢ _
  rw [scratch_eq]
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [show (pdats m 0 c).Φ (Fin.last _) = iprop(Yk c ∗ zeros c ∗ scratch c ∗ ∃ r, prngReg c r) from rfl]
  show _ ⊢ iprop(Pipeline.scopedRest spec0 c ∗ (∃ r, prngReg c r)
    ∗ StableHlo.held (c.tc : Thread nD τ) ∅ (V2 m (outs m) c) ∗ Pipeline.ownSems0 osem c ∗ Yk c)
  rw [scratch_eq, ownSems_eq]
  iintro ⟨HY, Hz, Hs, Hp⟩
  isplitl [Hs]; · iexact Hs
  isplitl [Hp]; · iexact Hp
  isplitr
  · unfold StableHlo.held; rw [BI.bigSep_empty]; iempintro
  isplitl [Hz] <;> iassumption

/-- The windows' own cells lie below everything a device owes. -/
theorem cut : Pipeline.LevelCutOwed (pcfgs (F := F)) adm (pdats m) () L lv 0 fun _ => 0 where
  hι c w s := by rw [L_tc]; exact Finset.mem_singleton_self _
  hιb c w s := by fin_cases w <;> fin_cases s <;> exact Nat.le_of_eq rfl
  hD c t g i h := by
    have e : (pdats (F := F) m 0 c).owed t = if t.val = 0 then owesAll c else 0 := rfl
    rw [e] at h
    split at h
    · exact owesAll_cut h
    · exact absurd h (Nat.lt_irrefl 0)

theorem V2_rest (c : Dev nD) (b : DevRef τ sig) (hb : b ≠ Proc.devRef .tc main_v20) : V2 m (outs m) c b = V1 m c b := Function.update_of_ne hb _ _

theorem arrAt_last (c : Dev nD) (w : Fin 6) :
    (dat m c).arrAt w cfg0.N = V2 m (outs m) c (Proc.devRef .tc (Pipeline.arrRef spec0 w)) := by
  fin_cases w
  · exact ((dat m c).arrAt_in 0 rfl _).trans (V2_rest m c (Proc.devRef .tc main_v5) (by decide)).symm
  · exact ((dat m c).arrAt_in 1 rfl _).trans (V2_rest m c (Proc.devRef .tc main_arg1) (by decide)).symm
  · exact ((dat m c).arrAt_in 2 rfl _).trans (V2_rest m c (Proc.devRef .tc main_v18) (by decide)).symm
  · exact ((dat m c).arrAt_in 3 rfl _).trans (V2_rest m c (Proc.devRef .tc main_v19) (by decide)).symm
  · exact ((dat m c).arrAt_in 4 rfl _).trans (V2_rest m c (Proc.devRef .tc main_arg4) (by decide)).symm
  · exact (arr_out m c).trans (Eq.symm ((Function.update_self ..).trans (outs_v20 m c)))

set_option backward.isDefEq.respectTransparency.types false in
/-- The call between the states of the program before and after it. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body m c).loose)
    (fun _ => 0) owesAll (fun c => (owed_zero m c).trans (zero_add _).symm) (owed_last m) (fun _ => rfl) (share_eq m)
    (V1 m) (V2 m (outs m)) (fun c b hb => V2_rest m c b (by
      rintro rfl
      exact absurd hb (by decide)))
    (Tk m) Yk (Xk m) Yk (entry m) (hin m) (hout m)
    (fun c => by iintro H; imodintro; iexact H)
    (fun _ => 0) (cut m) (fun _ => iprop(emp))
    (fun c w => by fin_cases w <;> rfl) (arrAt_last m)

end Cert.KernelIdeal.Hand

end
-- ==== Proof.KernelIdeal.Launch.lean ====
/-
  The program on all devices: the protocol's resources made at launch and dealt, and the run put together — every execution ends,
  with the arguments as they were, the result at `V3`'s value, and every counter at zero.
-/
module

public import proofs.«01_k».proof.Proof.KernelIdeal.Region

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat HostSeg Seg)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Cells and tokens of the launch -/

theorem osem_inj : Function.Injective osem := by decide
theorem osem_ne_bar : ∀ x : Fin 4 × Fin 3, osem x ≠ .reg barS := by decide

def barEmb : Dev nD ↪ GSem nD τ sig := ⟨fun c => barC c, fun _ _ h => congrArg (fun g : GSem nD τ sig => g.1.1) h⟩
def copyEmb : Dev nD × (Fin 4 × Fin 3) ↪ GSem nD τ sig :=
  ⟨fun x => cell x.2.1 x.2.2 x.1, fun _ _ h => Prod.ext (congrArg (fun g : GSem nD τ sig => g.1.1) h) (osem_inj (congrArg Prod.snd h))⟩

abbrev barCells : Finset (GSem nD τ sig) := Finset.univ.map barEmb
abbrev copyCells : Finset (GSem nD τ sig) := Finset.univ.map copyEmb

theorem disjoint_cells : Disjoint (barCells : Finset (GSem nD τ sig)) copyCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-- The duties of a device's cells, five for each `j`: its barrier's `j`-th and the only one of each cell of copy `j`. -/
abbrev tokSem : Fin 3 × Fin 5 → SemLoc sig × Fin 3
  | (j, 0) => (.reg barS, j) | (j, 1) => (.dma (csem 0 j), 0) | (j, 2) => (.dma (csem 1 j), 0) | (j, 3) => (.dma (csem 2 j), 0) | (j, 4) => (.dma (csem 3 j), 0)
theorem tokSem_inj : Function.Injective tokSem := by decide
def tokEmb : (Dev nD × Fin 3) × Fin 5 ↪ GSem nD τ sig × ℕ × Fin 3 :=
  ⟨fun x => (((x.1.1 : Thread nD τ), (tokSem (x.1.2, x.2)).1), 0, (tokSem (x.1.2, x.2)).2), fun x y h => by
    have h1 : x.1.1 = y.1.1 := congrArg (fun t : GSem nD τ sig × ℕ × Fin 3 => t.1.1.1) h
    have h2 : (x.1.2, x.2) = (y.1.2, y.2) := tokSem_inj (Prod.ext (congrArg (fun t : GSem nD τ sig × ℕ × Fin 3 => t.1.2) h)
      (congrArg (fun t : GSem nD τ sig × ℕ × Fin 3 => t.2.2) h))
    exact Prod.ext (Prod.ext h1 (congrArg (fun t : Fin 3 × Fin 5 => t.1) h2)) (congrArg (fun t : Fin 3 × Fin 5 => t.2) h2)⟩
abbrev toks : Finset (GSem nD τ sig × ℕ × Fin 3) := Finset.univ.map tokEmb

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- A device's `j`-th duties, as minted: each at the cell it belongs to. -/
def minted (x : Dev nD × Fin 3) : sProp 𝕄 :=
  iprop(dutyTok ER (barC x.1) 0 x.2 ∗ dutyTok ER (cell 0 x.2 x.1) 0 0 ∗ dutyTok ER (cell 1 x.2 x.1) 0 0
    ∗ dutyTok ER (cell 2 x.2 x.1) 0 0 ∗ dutyTok ER (cell 3 x.2 x.1) 0 0)

theorem toks_eq : bigSep toks (fun x => (dutyTok ER x.1 x.2.1 x.2.2 : sProp 𝕄)) = bigSep Finset.univ minted := by
  rw [bigSep_map, bigSep_univ_prod]
  exact bigSep_congr fun c _ => by unfold minted; rw [bigSep_fin5]; rfl

/-- The signal to the `j`-th next device is that device's duty `Fin.rev j`, and the other way round. -/
def signalEquiv : Dev nD × Fin 3 ≃ Dev nD × Fin 3 where
  toFun x := (nx x.2 x.1, Fin.rev x.2)
  invFun x := (nx x.2 x.1, Fin.rev x.2)
  left_inv x := Prod.ext (nx_nx x.2 x.1) (Fin.rev_rev x.2)
  right_inv x := Prod.ext (nx_nx x.2 x.1) (Fin.rev_rev x.2)
/-- The `j`-th copy of a device arrives at the `j`-th next. -/
def arriveEquiv : Dev nD × Fin 3 ≃ Dev nD × Fin 3 where
  toFun x := (nx x.2 x.1, x.2)
  invFun x := (pv x.2 x.1, x.2)
  left_inv x := Prod.ext (pv_nx x.2 x.1) rfl
  right_inv x := Prod.ext (nx_pv x.2 x.1) rfl

/-- Each token handed to the device that pays its duty. -/
theorem toks_around : bigSep Finset.univ (minted : _ → sProp 𝕄) = bigSep Finset.univ fun c : Dev nD => iprop(tokens c 0 ∗ tokens c 1 ∗ tokens c 2) := by
  have h : (bigSep Finset.univ fun c : Dev nD => (iprop(tokens c 0 ∗ tokens c 1 ∗ tokens c 2) : sProp 𝕄))
      = bigSep Finset.univ fun x : Dev nD × Fin 3 => tokens x.1 x.2 := by
    rw [bigSep_univ_prod]
    exact bigSep_congr fun c _ => (Ring.bigSep_fin3 _).symm
  rw [h]
  unfold minted tokens
  rw [bigSep_sep', bigSep_sep', bigSep_sep', bigSep_sep', bigSep_sep', bigSep_sep', bigSep_sep', bigSep_sep',
    bigSep_univ_equiv signalEquiv (fun x : Dev nD × Fin 3 => (dutyTok ER (barC x.1) 0 x.2 : sProp 𝕄)),
    bigSep_univ_equiv arriveEquiv (fun x : Dev nD × Fin 3 => (dutyTok ER (cell 1 x.2 x.1) 0 0 : sProp 𝕄)),
    bigSep_univ_equiv arriveEquiv (fun x : Dev nD × Fin 3 => (dutyTok ER (cell 3 x.2 x.1) 0 0 : sProp 𝕄))]
  rfl

/-! ## The credit dealt at launch -/

/-- What all devices together owe one cell, when each owes its `j`-th next device's cell of one name the same. -/
theorem sum_tally (j : Fin 3) (sm sm' : SemLoc sig) (n : ℕ) (c : Dev nD) :
    ∑ d : Dev nD, (tallyAt (((nx j d : Dev nD) : Thread nD τ), sm) () n : CellTallies nD τ sig Unit) ((c : Thread nD τ), sm') () = if sm' = sm then n else 0 := by
  have h : ∀ d : Dev nD, (tallyAt (((nx j d : Dev nD) : Thread nD τ), sm) () n : CellTallies nD τ sig Unit) ((c : Thread nD τ), sm') ()
      = if d = pv j c then (if sm' = sm then n else 0) else 0 := fun d => by
    rw [tallyAt_apply]
    by_cases hd : d = pv j c
    · subst hd
      rw [nx_pv, if_pos rfl]
      by_cases hs : sm' = sm
      · subst hs; rw [if_pos ⟨rfl, rfl⟩, if_pos rfl]
      · rw [if_neg (fun ⟨h, _⟩ => hs (congrArg Prod.snd h)), if_neg hs]
    · rw [if_neg hd, if_neg]
      rintro ⟨h, -⟩
      have h' : c = nx j d := congrArg (fun g : GSem nD τ sig => g.1.1) h
      exact hd (by rw [h', pv_nx])
  rw [Finset.sum_congr rfl fun d _ => h d, Finset.sum_ite_eq' Finset.univ (pv j c) fun _ => (if sm' = sm then n else 0), if_pos (Finset.mem_univ _)]

/-- What all devices together owe a cell of device `c`, by the cell's name. -/
theorem sum_owes (c : Dev nD) (sm : SemLoc sig) : ∑ d : Dev nD, owesAll d ((c : Thread nD τ), sm) ()
    = (if sm = .dma (csem 3 2) then N else 0) + (if sm = .dma (csem 3 1) then N else 0) + (if sm = .dma (csem 3 0) then N else 0)
      + (if sm = .dma (csem 1 2) then N else 0) + (if sm = .dma (csem 1 1) then N else 0) + (if sm = .dma (csem 1 0) then N else 0)
      + (if sm = .reg barS then 1 else 0) + (if sm = .reg barS then 1 else 0) + (if sm = .reg barS then 1 else 0) := by
  unfold owesAll owesPart owesSum
  simp only [Pi.add_apply, Finsupp.add_apply, Finset.sum_add_distrib, sum_tally, Pi.zero_apply, Finsupp.zero_apply, Finset.sum_const_zero, Nat.zero_add]

theorem launch_cell (c : Dev nD) (sm : SemLoc sig) (n : ℕ) (h : ∑ d : Dev nD, owesAll d ((c : Thread nD τ), sm) () = n) :
    tallyOn ((c : Thread nD τ), sm) (launchCredit (Pipeline.owing owesAll) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same]
  exact h

/-- Two copy semaphores of different names differ. -/
theorem csem_eq (k k' : Fin 4) (j j' : Fin 3) : (SemLoc.dma (csem k j) : SemLoc sig) = .dma (csem k' j') ↔ k = k' ∧ j = j' :=
  ⟨fun h => by
    have := osem_inj (a₁ := (k, j)) (a₂ := (k', j')) h
    exact ⟨congrArg Prod.fst this, congrArg Prod.snd this⟩, fun ⟨h, h'⟩ => by rw [h, h']⟩

theorem launch_bar (c : Dev nD) :
    tallyOn (barC c) (launchCredit (Pipeline.owing owesAll) 0 (barC c)) = (tallyAt (barC c) () 3 : CellTallies nD τ sig Unit) :=
  launch_cell c _ 3 (by
    rw [sum_owes, if_neg (by decide), if_neg (by decide), if_neg (by decide), if_neg (by decide), if_neg (by decide), if_neg (by decide), if_pos rfl])
theorem launch_copy (k : Fin 4) (hk : k = 1 ∨ k = 3) (j : Fin 3) (c : Dev nD) :
    tallyOn (cell k j c) (launchCredit (Pipeline.owing owesAll) 0 (cell k j c)) = (tallyAt (cell k j c) () N : CellTallies nD τ sig Unit) :=
  launch_cell c _ N (by
    rw [sum_owes]
    simp only [csem_eq, if_neg (osem_ne_bar (k, j))]
    generalize N = n
    rcases hk with rfl | rfl <;> fin_cases j <;> simp)

theorem creds (c : Dev nD) :
    (Pipeline.launchCred owesAll c : sProp 𝕄) ⊢ iprop(cred (tallyAt (barC c) () 3) ∗ credits c 0 ∗ credits c 1 ∗ credits c 2) := by
  unfold Pipeline.launchCred credits
  rw [bigSep_univ_at _ (SemLoc.reg barS), launch_bar]
  refine sep_mono_right ?_
  refine (BI.bigSep_subset (t := Finset.univ.map ⟨fun x : Fin 3 × Fin 2 => SemLoc.dma (csem (if x.2 = 0 then 1 else 3) x.1), by decide⟩) ?_).trans ?_
  · intro sm h
    obtain ⟨x, -, rfl⟩ := Finset.mem_map.mp h
    exact Finset.mem_erase.mpr ⟨osem_ne_bar (_, x.1), Finset.mem_univ _⟩
  rw [bigSep_map, bigSep_univ_prod, Ring.bigSep_fin3, BI.bigSep_fin_two, BI.bigSep_fin_two, BI.bigSep_fin_two]
  rw [← launch_copy 1 (.inl rfl) 0 c, ← launch_copy 1 (.inl rfl) 1 c, ← launch_copy 1 (.inl rfl) 2 c,
    ← launch_copy 3 (.inr rfl) 0 c, ← launch_copy 3 (.inr rfl) 1 c, ← launch_copy 3 (.inr rfl) 2 c]
  exact BI.Entails.refl _

/-! ## The launch element and what it buys -/

/-- The launch element: the staging copies' and this protocol's. -/
def u₀ : UU :=
  (initOf (Pipeline.cells (Pipeline.pin (pcfgs (F := F)) adm) cellOf_inj) (Pipeline.launchToks (Pipeline.pin (pcfgs (F := F)) adm) cellOf_inj),
    launchOf barCells copyCells toks)

/-- A resource held by device 0 alone. -/
def onFirst (X : sProp 𝕄) (c : Dev nD) : sProp 𝕄 := if c = 0 then X else iprop(emp)
theorem bigSep_onFirst (X : sProp 𝕄) : bigSep Finset.univ (onFirst X) = X := by
  rw [bigSep_univ_at _ 0, bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

/-- The protocol's launch element waits on device 0 until every device's holdings are dealt at once. -/
def G : Dev nD → sProp 𝕄 := onFirst (BI.own (ER (launchOf barCells copyCells toks)))

/-- What a device keeps of the protocol's resources, beside the records. -/
def linear (c : Dev nD) : sProp 𝕄 :=
  iprop(atPos ER (barC c) 0 ∅ 0 ∗ (rights c 0 ∗ rights c 1 ∗ rights c 2) ∗ (tokens c 0 ∗ tokens c 1 ∗ tokens c 2))
/-- What a device's launch gives beside that. -/
def bundle (c : Dev nD) : sProp 𝕄 :=
  iprop((cred (tallyAt (barC c) () 3) ∗ credits c 0 ∗ credits c 1 ∗ credits c 2) ∗ owes (c : Thread nD τ) (owesAll c) ∅ ∗ ∃ r, prngReg c r)

/-- What a device carries from launch to the call, and from the call to the end, beside its buffers. -/
def E : Fin 2 → Dev nD → sProp 𝕄
  | 0 => fun c => iprop(Tk m c ∗ (∃ r, prngReg c r) ∗ ∃ W, owes (c : Thread nD τ) (owesAll c) W)
  | 1 => fun c => iprop(Yk c ∗ ∃ W, owes (c : Thread nD τ) (0 : CellTallies nD τ sig Unit) W)

theorem E_intro (κ : GSem nD τ sig → ℕ) (c : Dev nD) : iprop(records (ins m) κ ∗ (linear c ∗ bundle c)) ⊢ E m 0 c := by
  unfold linear bundle
  show _ ⊢ iprop(Tk m c ∗ (∃ r, prngReg c r) ∗ ∃ W, owes (c : Thread nD τ) (owesAll c) W)
  unfold Tk atBar
  iintro ⟨#HR, ⟨Hat, Hri, Ht⟩, ⟨Hb, Hc⟩, HO, Hp⟩
  isplitl [Hat Hri Ht Hb Hc]
  · iexists κ
    isplitr; · iexact HR
    isplitl [Hat Hb]; · isplitl [Hat] <;> iassumption
    isplitl [Ht]; · iexact Ht
    isplitl [Hri] <;> iassumption
  isplitl [Hp]; · iexact Hp
  iexists ∅; iexact HO

theorem unscoped_eq : ∀ sm : SemLoc sig, sm.isScoped .tc = false → sm = .reg barS := by decide
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem pairs (Φ Ψ : Dev nD → sProp 𝕄) : bigSep Finset.univ (fun c => iprop(Φ c ∗ Ψ c)) = iprop(bigSep Finset.univ Φ ∗ bigSep Finset.univ Ψ) := bigSep_sep' ..

/-- The records, from the cells' invariants and the barriers' rounds reached. -/
theorem records_intro (I : Dev nD → Ins F) (κ : GSem nD τ sig → ℕ) :
    iprop((bigSep (barCells ∪ copyCells) fun g => cellInv ER (rd I) (κ g) g) ∗ bigSep barCells fun g => reached ER g 0) ⊢ (records I κ : sProp 𝕄) := by
  have h : (bigSep (barCells ∪ copyCells) fun g => (cellInv ER (rd I) (κ g) g : sProp 𝕄))
      = iprop((bigSep Finset.univ fun c : Dev nD => cellInv ER (rd I) (κ (barC c)) (barC c))
        ∗ bigSep Finset.univ fun x : Dev nD × (Fin 4 × Fin 3) => cellInv ER (rd I) (κ (cell x.2.1 x.2.2 x.1)) (cell x.2.1 x.2.2 x.1)) := by
    rw [bigSep_union disjoint_cells, bigSep_map, bigSep_map]; rfl
  have h' : (bigSep barCells fun g => (reached ER g 0 : sProp 𝕄)) = bigSep Finset.univ fun c : Dev nD => reached ER (barC c) 0 := by
    rw [bigSep_map]; rfl
  unfold records
  rw [h, h', pairs]
  iintro ⟨⟨H1, H2⟩, H3⟩
  isplitl [H1 H3]
  · isplitl [H1] <;> iassumption
  iexact H2

/-- The launch: every cell's invariant made, the copies' dormant, and everything dealt. -/
theorem init :
    iprop((bigSep Finset.univ fun c : Dev nD => iprop(unscopedSems0 c ∗ owes (c : Thread nD τ) (owesAll c) ∅ ∗ Pipeline.launchCred owesAll c ∗ prngReg c (ρ c) ∗ G c))
        ∗ levAts L lv)
      ⊢ (|={Set.univ}=> bigSep Finset.univ (E m 0) : sProp 𝕄) := by
  have hcore (c : Dev nD) : iprop(unscopedSems0 c ∗ owes (c : Thread nD τ) (owesAll c) ∅ ∗ Pipeline.launchCred owesAll c ∗ prngReg c (ρ c) ∗ G c)
      ⊢ (iprop(bundle c ∗ (semVal (barC c) 0 ∗ G c)) : sProp 𝕄) := by
    rw [unscopedSems0_eq]
    unfold bundle
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have hopen : bigSep copyCells (fun g => (openTok ER g : sProp 𝕄))
      ⊢ bigSep Finset.univ (fun c : Dev nD => iprop(rights c 0 ∗ rights c 1 ∗ rights c 2)) :=
    Entails.of_eq (by
      rw [bigSep_map, bigSep_univ_prod]
      exact bigSep_congr fun c _ => by rw [bigSep_copies]; rfl)
  iintro ⟨H, -⟩
  ihave H' := (show (bigSep Finset.univ fun c : Dev nD => iprop(unscopedSems0 c
          ∗ owes (c : Thread nD τ) (owesAll c) ∅ ∗ Pipeline.launchCred owesAll c ∗ prngReg c (ρ c) ∗ G c))
      ⊢ (bigSep Finset.univ fun c : Dev nD => iprop(bundle c ∗ (semVal (barC c) 0 ∗ G c)) : sProp 𝕄) from bigSep_mono fun c _ => hcore c) $$ H
  ihave H2 := (Entails.of_eq (pairs _ _)) $$ H'; icases H2 with ⟨HB, H3⟩
  ihave H4 := (Entails.of_eq (pairs _ _)) $$ H3; icases H4 with ⟨Hv, HG⟩
  ihave Hu := (show bigSep Finset.univ (G (F := F)) ⊢ BI.own (ER (launchOf barCells copyCells toks)) from
    Entails.of_eq (bigSep_onFirst (F := F) (BI.own (ER (launchOf barCells copyCells toks))))) $$ HG
  imod (Rounds.fund_launch ER (rd (ins m)) disjoint_cells (fun g _ h => h) toks) $$ [Hv Hu] with ⟨%κ, -, Hinv, Hr, Hat, Hopen, Htok⟩
  · isplitl [Hv]
    · iapply hv $$ Hv
    · iexact Hu
  ihave HR := (records_intro (ins m) κ) $$ [Hinv Hr]
  · isplitl [Hinv] <;> iassumption
  imodintro
  iapply (bigSep_with_persistent (R := records (ins m) κ) (Φ := fun c => iprop(linear c ∗ bundle c)) fun c _ => E_intro m κ c)
  isplitl [HR]; · iexact HR
  iapply (Entails.of_eq (pairs _ _).symm)
  isplitr [HB]
  · unfold linear
    iapply (Entails.of_eq (pairs _ _).symm); isplitl [Hat]; · iapply hat $$ Hat
    iapply (Entails.of_eq (pairs _ _).symm); isplitl [Hopen]; · iapply hopen $$ Hopen
    iapply (Entails.of_eq (toks_around (F := F)))
    iapply (Entails.of_eq (toks_eq (F := F))) $$ Htok
  · iexact HB

/-! ## The run -/

theorem arrays_sub : Pipeline.arrRefs (τ := τ) spec0 ⊆ Pipeline.ucRefs τ sig := Pipeline.arrRefs_sub_ucRefs spec0 (by decide)

theorem region_pre (c : Dev nD) : iprop(StableHlo.held (c : Thread nD τ) (Pipeline.ucRefs τ sig) (V1 m c) ∗ E m 0 c) ⊢ (region m).pre c := by
  show iprop(StableHlo.held (c : Thread nD τ) (Pipeline.ucRefs τ sig) (V1 m c)
      ∗ (Tk m c ∗ (∃ r, prngReg c r) ∗ ∃ W, owes (c : Thread nD τ) (owesAll c) W)) ⊢
    iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + owesAll c) Wd)
  rw [zero_add, StableHlo.held_sub_split (c.tc : Thread nD τ) arrays_sub (V1 m c)]
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem region_post (c : Dev nD) : (region m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢
    iprop(StableHlo.held (c : Thread nD τ) (Pipeline.ucRefs τ sig) (V2 m (outs m) c)
      ∗ (Yk c ∗ ∃ W, owes (c : Thread nD τ) (0 : CellTallies nD τ sig Unit) W))
  rw [StableHlo.held_sub_split (c.tc : Thread nD τ) arrays_sub (V2 m (outs m) c)]
  iintro ⟨Ha, -, ⟨Ho, -⟩, HY, HO⟩
  isplitl [Ha Ho]
  · isplitl [Ha] <;> iassumption
  isplitl [HY] <;> iassumption

/-- What is read of device `c` at the end: its arguments as launched, its result. -/
def Ends (c : Dev nD) (s : MemSt nD τ sig (Elt F)) : Prop :=
  s.mem ((c.tc : Thread nD τ).loc main_v21) = V3 m (outs m) c main_v21
  ∧ s.mem ((c.tc : Thread nD τ).loc main_arg0) = m ((c.tc : Thread nD τ).loc main_arg0) ∧ s.mem ((c.tc : Thread nD τ).loc main_arg1) = m ((c.tc : Thread nD τ).loc main_arg1)
  ∧ s.mem ((c.tc : Thread nD τ).loc main_arg2) = m ((c.tc : Thread nD τ).loc main_arg2) ∧ s.mem ((c.tc : Thread nD τ).loc main_arg3) = m ((c.tc : Thread nD τ).loc main_arg3)
  ∧ s.mem ((c.tc : Thread nD τ).loc main_arg4) = m ((c.tc : Thread nD τ).loc main_arg4)

set_option backward.isDefEq.respectTransparency.types false in
/-- Every execution on the four devices ends, each device with `Ends`, every counter at zero. -/
theorem run : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (region m))
    (fun c Q => by
      rewrite [main_chain c, Seg.run_eq_chain,
        show (segs m (outs m) 𝒱₀ L lv (E m) () (pdats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) owesAll L_of_ne G (u₀ (F := F)) ?_
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barC c) 0))
    (hch := fun c => ⟨.rfl, region_pre m c, region_post m c, ?_⟩)
    (hinit := ?_) (QY := fun c s => Ends m c s ∧ s.sem (barC c) = 0)
    (hfin := fun c s' => ?_) (hQ := fun s h hs => ⟨fun c => (h c).1, sem_eq_zero hs fun c sm hsm => by
        obtain rfl := unscoped_eq sm hsm
        exact (h c).2⟩)
  · unfold u₀ G
    iintro Hu
    ihave H := (ownU_pair _ _) $$ Hu
    icases H with ⟨HP, HX⟩
    imodintro
    isplitl [HP]; · iexact HP
    rw [bigSep_onFirst]; iexact HX
  · show iprop(StableHlo.held (c : Thread nD τ) (Pipeline.ucRefs τ sig) (V3 m (outs m) c) ∗ (Yk c ∗ ∃ W, owes (c : Thread nD τ) (0 : CellTallies nD τ sig Unit) W)) ⊢ _
    unfold Yk
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (owesAll c) ∅ ∗ Pipeline.launchCred owesAll c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (owesAll c) ∅ ∗ Pipeline.launchCred owesAll c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr] <;> iassumption
    imodintro
    rw [bigSep_sep']
    isplitl [Hh] <;> iassumption
  · unfold StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      have hr : ∀ r : Ref sig .tc, r.isScoped = false → s'.mem.mem ((c.tc : Thread nD τ).loc r) = V3 m (outs m) c r := fun r hs =>
        h (Proc.devRef .tc r) (Finset.mem_filter.mpr ⟨StableHlo.devRef_mem_tcRefs r, fun h' => Bool.false_ne_true (hs.symm.trans h')⟩)
      exact ⟨⟨hr main_v21 rfl, (hr main_arg0 rfl).trans (V3_main_arg0 m (outs m) c), (hr main_arg1 rfl).trans (V3_main_arg1 m (outs m) c),
        (hr main_arg2 rfl).trans (V3_main_arg2 m (outs m) c), (hr main_arg3 rfl).trans (V3_main_arg3 m (outs m) c),
        (hr main_arg4 rfl).trans (V3_main_arg4 m (outs m) c)⟩, by simpa using hb⟩
    iexact HSI

end Cert.KernelIdeal.Hand

end
-- ==== Proof.Frames.lean ====
/-
  The three frames and the one rewrite of the idealization. Each kernel's frame is its run (Launch.lean) with what the run
  says of the result dropped; the reference's is its generated run, whose program owns no semaphore.
-/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Proof

open Idealize.ShloMosaic Idealize.SL.Sem

/-- The kernel as printed ends with its arguments unchanged and every counter at zero. -/
theorem frame_kernel : Cert.quiescent_Kernel := fun m ρ _ =>
  (θ_run _ _ _).mono (fun _ h => ⟨fun c => (h.1 c).2, h.2⟩) (Cert.Kernel.Hand.run (F := Bits) m ρ)

/-- So does its idealization. -/
theorem frame_ideal : Cert.quiescent_KernelIdeal := fun m ρ _ =>
  (θ_run _ _ _).mono (fun _ h => ⟨fun c => (h.1 c).2, h.2⟩) (Cert.KernelIdeal.Hand.run (F := Ideal) m ρ)

/-- And the idealized reference. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The named constant of the idealization is what the table says: the mask's value stands for minus infinity. -/
theorem preserves : Cert.preserves_Kernel_KernelIdeal :=
  IdealRules.named_const.statement Cert.KernelIdeal.κ "mask" .f32 0xCE6E6B28#32 ⊥ rfl

end Cert.Proof

end
-- ==== Proof.Math.lean ====
/-
  The mathematics of the problem over the extended reals, in plain indices: masked attention with 32 heads and the output
  projection. Both programs are shown to compute `result`.
-/
module

public import Idealize.ShloMosaic.PureOps.Ideal

@[expose] public section

noncomputable section

namespace Cert.Attn

open Idealize.ShloMosaic

/-- The greatest entry of a row. -/
def rowMax (s : Fin 1024 → EReal) : EReal := Finset.univ.fold max ⊥ s

/-- The softmax of a row at `j`. -/
def weight (s : Fin 1024 → EReal) (j : Fin 1024) : EReal :=
  Ideal.div (Ideal.exp (s j - rowMax s)) (∑ k, Ideal.exp (s k - rowMax s))

/-- The positions kept by the block mask: same block of 64, the first block of columns, or block numbers whose sum three divides. -/
def kept (i j : ℕ) : Prop := (i / 64 = j / 64 ∨ j / 64 = 0) ∨ (i / 64 + j / 64) % 3 = 0

instance (i j : ℕ) : Decidable (kept i j) := inferInstanceAs (Decidable (_ ∨ _))

/-- The scores' scale: the float nearest to one over the root of 128. -/
def scale : EReal := Ideal.ofBits .f32 0x3DB504F3#32

/-- The arrays of the problem, the batch axis dropped. -/
structure Arrays where
  x : Fin 1024 → Fin 1024 → EReal
  wq : Fin 1024 → Fin 4096 → EReal
  k : Fin 1024 → Fin 32 → Fin 128 → EReal
  v : Fin 1024 → Fin 32 → Fin 128 → EReal
  wo : Fin 4096 → Fin 1024 → EReal

/-- Column `d` of head `g` among the 4096. -/
def col (g : Fin 32) (d : Fin 128) : Fin 4096 := ⟨128 * g.val + d.val, by omega⟩
/-- The head a column belongs to, and its place there. -/
def headOf (n : Fin 4096) : Fin 32 := ⟨n.val / 128, by omega⟩
def laneOf (n : Fin 4096) : Fin 128 := ⟨n.val % 128, by omega⟩

variable (A : Arrays)

/-- The queries. -/
def query (i : Fin 1024) (n : Fin 4096) : EReal := ∑ m, A.x i m * A.wq m n

/-- The masked, scaled scores of head `g`. -/
def score (g : Fin 32) (i j : Fin 1024) : EReal :=
  if kept i j then (∑ d, query A i (col g d) * A.k j g d) * scale else ⊥

/-- The context of head `g`: the weights' mean of the values. -/
def ctx (g : Fin 32) (i : Fin 1024) (d : Fin 128) : EReal := ∑ j, weight (score A g i) j * A.v j g d

/-- The contexts side by side, times the output weights. -/
def result (i n : Fin 1024) : EReal := ∑ k, ctx A (headOf k) i (laneOf k) * A.wo k n

/-- Row `k` of device `c`'s quarter of the output weights. -/
def quarter (c : Fin 4) (k : Fin 1024) : Fin 4096 := ⟨1024 * c.val + k.val, by omega⟩

/-- One device's part of the result: the sum over its quarter. -/
def part (c : Fin 4) (i n : Fin 1024) : EReal :=
  ∑ k, ctx A (headOf (quarter c k)) i (laneOf (quarter c k)) * A.wo (quarter c k) n

/-- The result is the sum of the four parts. -/
theorem result_eq_parts (i n : Fin 1024) : result A i n = ∑ c, part A c i n := by
  unfold result part
  rw [← Finset.sum_product' (f := fun c k => ctx A (headOf (quarter c k)) i (laneOf (quarter c k)) * A.wo (quarter c k) n)]
  refine (Finset.sum_nbij' (fun p : Fin 4 × Fin 1024 => quarter p.1 p.2)
    (fun k : Fin 4096 => ((⟨k.val / 1024, by omega⟩, ⟨k.val % 1024, by omega⟩) : Fin 4 × Fin 1024)) ?_ ?_ ?_ ?_ ?_).symm
  · intro _ _; exact Finset.mem_univ _
  · intro _ _; exact Finset.mem_univ _
  · rintro ⟨c, k⟩ _
    refine Prod.ext (Fin.ext ?_) (Fin.ext ?_) <;> simp only [quarter] <;> omega
  · intro k _
    refine Fin.ext ?_
    simp only [quarter]; omega
  · rintro ⟨c, k⟩ _; rfl

/-- A positive finite factor moves out of a sum. -/
theorem sum_mul_const {ι : Type} (s : Finset ι) (f : ι → EReal) {a : EReal} (h0 : 0 ≤ a) (ht : a ≠ ⊤) :
    ∑ d ∈ s, f d * a = (∑ d ∈ s, f d) * a := by
  classical
  induction s using Finset.induction_on with
  | empty => simp
  | insert d s hd ih =>
    rw [Finset.sum_insert hd, Finset.sum_insert hd, ih, mul_comm (f d + _) a, EReal.left_distrib_of_nonneg_of_ne_top h0 ht, mul_comm a, mul_comm a]

/-- A row's kept positions are never empty: the first column is kept. -/
theorem kept_first (i : ℕ) : kept i 0 := Or.inl (Or.inr rfl)

end Cert.Attn

end
-- ==== Proof.Consts.lean ====
/-
  The float constants of the programs as extended reals, each unfolded once.
-/
module

public import proofs.«01_k».proof.Proof.Math

@[expose] public section

noncomputable section

namespace Cert.Attn

open Idealize.ShloMosaic

/-- The word of minus infinity denotes it. -/
theorem ofBits_neg_inf : Ideal.ofBits .f32 0xFF800000#32 = ⊥ := by
  simp [Ideal.ofBits, Ideal.ieee]

/-- The scale is a real, -/
theorem scale_real : ∃ r : ℝ, 0 ≤ r ∧ scale = (r : EReal) := by
  refine ⟨_, ?_, by unfold scale; simp only [Ideal.ofBits, Ideal.ieee]; simp [-EReal.coe_mul]; rfl⟩
  norm_num

/-- not negative -/
theorem scale_nonneg : 0 ≤ scale := by
  obtain ⟨r, h, e⟩ := scale_real; rw [e]; exact_mod_cast h
/-- and finite. -/
theorem scale_ne_top : scale ≠ ⊤ := by
  obtain ⟨r, h, e⟩ := scale_real; rw [e]; exact EReal.coe_ne_top r

end Cert.Attn

end
-- ==== Proof.KernelIdeal.Mask.lean ====
/-
  The mask's bias at a position, over the extended reals: zero where the position is kept, minus infinity elsewhere.
-/
module

public import proofs.«01_k».proof.Proof.KernelIdeal.Chunk
public import proofs.«01_k».proof.Proof.Consts
public import Idealize.ShloMosaic.Lib.Pointwise
public import Idealize.ShloMosaic.PureOps.IdealRules

@[expose] public section

set_option maxRecDepth 16384

noncomputable section

namespace Cert.KernelIdeal.Hand

open Cert.KernelIdeal Cert.KernelIdeal.Gen Cert.Attn
open Idealize.ShloMosaic

/-- The printed floor division by 64, on the words below 1024. -/
theorem block_word : ∀ n : Fin 1024,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32)
    = BitVec.ofNat 32 (n.val / 64) := by decide +kernel

/-- The printed test, on the blocks' numbers. -/
theorem keep_word : ∀ a b : Fin 16,
    IntOp.ori
      (IntOp.ori (IntOp.cmpi .eq (BitVec.ofNat 32 a.val) (BitVec.ofNat 32 b.val)) (IntOp.cmpi .eq (BitVec.ofNat 32 b.val) 0#32))
      (IntOp.cmpi .eq
        (Scalar.select
          (IntOp.andi
            (IntOp.xori
              (IntOp.cmpi .slt (IntOp.remsi .vector (IntOp.addi (BitVec.ofNat 32 a.val) (BitVec.ofNat 32 b.val)) (Scalar.select (Scalar.cmpi .eq 3#32 0#32) 1#32 3#32)) 0#32)
              (Scalar.cmpi .slt (Scalar.select (Scalar.cmpi .eq 3#32 0#32) 1#32 3#32) 0#32))
            (IntOp.cmpi .ne (IntOp.remsi .vector (IntOp.addi (BitVec.ofNat 32 a.val) (BitVec.ofNat 32 b.val)) (Scalar.select (Scalar.cmpi .eq 3#32 0#32) 1#32 3#32)) 0#32))
          (IntOp.addi (IntOp.remsi .vector (IntOp.addi (BitVec.ofNat 32 a.val) (BitVec.ofNat 32 b.val)) (Scalar.select (Scalar.cmpi .eq 3#32 0#32) 1#32 3#32))
            (Scalar.select (Scalar.cmpi .eq 3#32 0#32) 1#32 3#32))
          (IntOp.remsi .vector (IntOp.addi (BitVec.ofNat 32 a.val) (BitVec.ofNat 32 b.val)) (Scalar.select (Scalar.cmpi .eq 3#32 0#32) 1#32 3#32)))
        0#32)
    = BitVec.ofBool (decide ((a.val = b.val ∨ b.val = 0) ∨ (a.val + b.val) % 3 = 0)) := by decide +kernel

/-- The bias at `(i, j)`. -/
theorem bias_at (i j : Fin 1024) : (bias : FVec Ideal S1024x1024 .f32) (ix2 i j) = if kept i j then (0 : EReal) else ⊥ := by
  unfold bias
  pointwise [k0_pay1, k0_pay2, k0_pay3, k0_pay4, k0_pay5, k0_pay6, k0_pay7, k0_pay8, k0_pay9, k0_pay10]
  rw [block_word i, block_word j]
  rw [keep_word ⟨i.val / 64, by omega⟩ ⟨j.val / 64, by omega⟩, IdealRules.named_const.ideal_named_scalar κ "mask" _ ⊥ rfl]
  by_cases h : kept i j
  · rw [if_pos h, decide_eq_true (show (i.val / 64 = j.val / 64 ∨ j.val / 64 = 0) ∨ (i.val / 64 + j.val / 64) % 3 = 0 from h)]; rfl
  · rw [if_neg h, decide_eq_false (show ¬((i.val / 64 = j.val / 64 ∨ j.val / 64 = 0) ∨ (i.val / 64 + j.val / 64) % 3 = 0) from h)]; rfl

end Cert.KernelIdeal.Hand

end
-- ==== Proof.KernelIdeal.Heads.lean ====
/-
  One device's values at an index, over the extended reals: queries, scores, weights, contexts and the product of the eight
  contexts with the output weights.
-/
module

public import proofs.«01_k».proof.Proof.KernelIdeal.Mask

@[expose] public section

set_option maxRecDepth 16384

noncomputable section

namespace Cert.KernelIdeal.Hand

open Cert.KernelIdeal Cert.KernelIdeal.Gen Cert.Attn
open Idealize.ShloMosaic

/-- Row `p` of block `r` is row `256 * r + p`. -/
theorem rowsOf_at {e : EltTy} (r : Fin 4) (A : Vec Ideal S1024x1024 e) (p : Fin 256) (k : Fin 1024) :
    rowsOf r A (ix2 p k) = A (ix2 ⟨256 * r.val + p.val, by omega⟩ k) := by
  refine congrArg A (funext fun a => Fin.ext ?_)
  rw [Rect.emb_apply]
  match a with
  | ⟨0, _⟩ => show 256 * r.val + 1 * p.val = 256 * r.val + p.val; omega
  | ⟨1, _⟩ => show 0 + 1 * k.val = k.val; omega

/-- A head of the transposed keys, at an index. -/
theorem ktHead_at (h : Fin 8) (A : Vec Ideal S8x128x1024 .bf16) (d : Fin 128) (j : Fin 1024) : ktHead h A (ix3 0 d j) = A (ix3 h d j) := by
  refine congrArg A (funext fun a => Fin.ext ?_)
  rw [Rect.emb_apply]
  match a with
  | ⟨0, _⟩ => show h.val + 1 * 0 = h.val; omega
  | ⟨1, _⟩ => show 0 + 1 * d.val = d.val; omega
  | ⟨2, _⟩ => show 0 + 1 * j.val = j.val; omega

/-- A head of the values, at an index. -/
theorem vHead_at (h : Fin 8) (A : Vec Ideal S8x1024x128 .bf16) (j : Fin 1024) (d : Fin 128) : vHead h A (ix3 0 j d) = A (ix3 h j d) := by
  refine congrArg A (funext fun a => Fin.ext ?_)
  rw [Rect.emb_apply]
  match a with
  | ⟨0, _⟩ => show h.val + 1 * 0 = h.val; omega
  | ⟨1, _⟩ => show 0 + 1 * j.val = j.val; omega
  | ⟨2, _⟩ => show 0 + 1 * d.val = d.val; omega

/-- The queries: a row times a column, scaled. -/
theorem queries_at (xr : Vec Ideal S256x1024 .bf16) (wq : Vec Ideal S1024x1024 .bf16) (p : Fin 256) (n : Fin 1024) :
    queries xr wq (ix2 p n) = (∑ m : Fin 1024, (xr (ix2 p m) : EReal) * wq (ix2 m n)) * scale := by
  unfold queries scale; pointwise

/-- The scores: a query times a key, and the bias. -/
theorem scores_at (q : FVec Ideal S256x128 .bf16) (b : Vec Ideal S256x1024 .f32) (k : Vec Ideal S1x128x1024 .bf16) (p : Fin 256) (j : Fin 1024) :
    scores q b k (ix2 p j) = (∑ d : Fin 128, (q (ix2 p d) : EReal) * k (ix3 0 d j)) + b (ix2 p j) := by
  unfold scores; pointwise

/-- The weights are the softmax of the scores. -/
theorem weights_at (s : FVec Ideal S256x1024 .f32) (p : Fin 256) (j : Fin 1024) :
    weightsOf (expsOf s) (ix2 p j) = weight (fun j => s (ix2 p j)) j := by
  unfold weightsOf expsOf weight rowMax; pointwise
  simp only [ofBits_neg_inf]

/-- A head's context: the weights' mean of the values. -/
theorem headCtx_at (q : FVec Ideal S256x128 .bf16) (b : Vec Ideal S256x1024 .f32) (k : Vec Ideal S1x128x1024 .bf16) (v : Vec Ideal S1x1024x128 .bf16)
    (p : Fin 256) (d : Fin 128) :
    headCtx q b k v (ix2 p d) = ∑ j : Fin 1024, weight (fun j => scores q b k (ix2 p j)) j * v (ix3 0 j d) := by
  unfold headCtx; pointwise
  exact Finset.sum_congr rfl fun x _ => by rw [weights_at]

/-- The context of one head at a row, from the row's queries: written in plain sums. -/
def headRow (q : Fin 128 → EReal) (b : Fin 1024 → EReal) (k : Fin 128 → Fin 1024 → EReal) (v : Fin 1024 → Fin 128 → EReal) (d : Fin 128) : EReal :=
  ∑ j : Fin 1024, weight (fun j => (∑ d, q d * k d j) + b j) j * v j d

/-- The same, as `headRow` of the row's queries. -/
theorem headCtx_row (q : FVec Ideal S256x128 .bf16) (b : Vec Ideal S256x1024 .f32) (k : Vec Ideal S1x128x1024 .bf16) (v : Vec Ideal S1x1024x128 .bf16)
    (p : Fin 256) (d : Fin 128) :
    headCtx q b k v (ix2 p d) = headRow (fun d => q (ix2 p d)) (fun j => b (ix2 p j)) (fun d j => k (ix3 0 d j)) (fun j d => v (ix3 0 j d)) d := by
  rw [headCtx_at]; unfold headRow
  simp only [scores_at]

/-- Row `p` of the eight contexts side by side. -/
def ctxRow (q : FVec Ideal S256x1024 .bf16) (b : Vec Ideal S256x1024 .f32) (k : Fin 8 → Vec Ideal S1x128x1024 .bf16)
    (v : Fin 8 → Vec Ideal S1x1024x128 .bf16) (p : Fin 256) (m : Fin 1024) : EReal :=
  headRow (fun d => q (ix2 p ⟨128 * (m.val / 128) + d.val, by omega⟩)) (fun j => b (ix2 p j))
    (fun d j => k ⟨m.val / 128, by omega⟩ (ix3 0 d j)) (fun j d => v ⟨m.val / 128, by omega⟩ (ix3 0 j d)) ⟨m.val % 128, by omega⟩

/-- A head's slice of the queries at an index. -/
theorem slice_at (q : FVec Ideal S256x1024 .bf16) (o : ℕ) (hs) (p : Fin 256) (d : Fin 128) (m : Fin 1024) (hm : m.val = o + d.val) :
    (extractStridedSlice S256x128 ![0, o] q hs : FVec Ideal S256x128 .bf16) (ix2 p d) = q (ix2 p m) := by
  unfold extractStridedSlice
  refine congrArg q (funext fun a => Fin.ext ?_)
  match a with
  | ⟨0, _⟩ => show 0 + p.val = p.val; omega
  | ⟨1, _⟩ => show o + d.val = m.val; omega

/-- Head `h`'s context is the row's stretch of 128 at `128 * h`. -/
theorem piece_at (q : FVec Ideal S256x1024 .bf16) (b : Vec Ideal S256x1024 .f32) (k : Fin 8 → Vec Ideal S1x128x1024 .bf16)
    (v : Fin 8 → Vec Ideal S1x1024x128 .bf16) (h : Fin 8) (o : ℕ) (ho : o = 128 * h.val) (hs) (p : Fin 256) (d : Fin 128) (m : Fin 1024)
    (hm : m.val = 128 * h.val + d.val) :
    headCtx (extractStridedSlice S256x128 ![0, o] q hs) b (k h) (v h) (ix2 p d) = ctxRow q b k v p m := by
  have e : (⟨m.val / 128, by omega⟩ : Fin 8) = h := Fin.ext (by show m.val / 128 = h.val; omega)
  have f : (⟨m.val % 128, by omega⟩ : Fin 128) = d := Fin.ext (by show m.val % 128 = d.val; omega)
  rw [headCtx_row]; unfold ctxRow
  rw [e, f]
  congr 1
  funext d'
  exact slice_at q o hs p d' _ (by show 128 * (m.val / 128) + d'.val = o + d'.val; omega)

/-- The product of the eight contexts side by side with the output weights. -/
theorem chunk_at (q : FVec Ideal S256x1024 .bf16) (b : Vec Ideal S256x1024 .f32) (k : Fin 8 → Vec Ideal S1x128x1024 .bf16)
    (v : Fin 8 → Vec Ideal S1x1024x128 .bf16) (wo : Vec Ideal S1024x1024 .bf16) (p : Fin 256) (n : Fin 1024) :
    chunk q b k v wo (ix2 p n) = ∑ m : Fin 1024, (ctxRow q b k v p m : EReal) * wo (ix2 m n) := by
  unfold chunk; pointwise
  refine Finset.sum_congr rfl fun m _ => congrArg (· * wo (ix2 m n)) ?_
  have := m.isLt
  by_cases h0 : m.val < 128
  · rw [dif_pos h0]
    refine piece_at q b k v 0 0 (by decide) _ p ⟨m.val, h0⟩ m ?_
    show m.val = 0 + (m.val); omega
  rw [dif_neg h0]
  by_cases h1 : m.val - 128 < 128
  · rw [dif_pos h1]
    refine piece_at q b k v 1 128 (by decide) _ p ⟨m.val - 128, h1⟩ m ?_
    show m.val = 128 + (m.val - 128); omega
  rw [dif_neg h1]
  by_cases h2 : m.val - 128 - 128 < 128
  · rw [dif_pos h2]
    refine piece_at q b k v 2 256 (by decide) _ p ⟨m.val - 128 - 128, h2⟩ m ?_
    show m.val = 256 + (m.val - 128 - 128); omega
  rw [dif_neg h2]
  by_cases h3 : m.val - 128 - 128 - 128 < 128
  · rw [dif_pos h3]
    refine piece_at q b k v 3 384 (by decide) _ p ⟨m.val - 128 - 128 - 128, h3⟩ m ?_
    show m.val = 384 + (m.val - 128 - 128 - 128); omega
  rw [dif_neg h3]
  by_cases h4 : m.val - 128 - 128 - 128 - 128 < 128
  · rw [dif_pos h4]
    refine piece_at q b k v 4 512 (by decide) _ p ⟨m.val - 128 - 128 - 128 - 128, h4⟩ m ?_
    show m.val = 512 + (m.val - 128 - 128 - 128 - 128); omega
  rw [dif_neg h4]
  by_cases h5 : m.val - 128 - 128 - 128 - 128 - 128 < 128
  · rw [dif_pos h5]
    refine piece_at q b k v 5 640 (by decide) _ p ⟨m.val - 128 - 128 - 128 - 128 - 128, h5⟩ m ?_
    show m.val = 640 + (m.val - 128 - 128 - 128 - 128 - 128); omega
  rw [dif_neg h5]
  by_cases h6 : m.val - 128 - 128 - 128 - 128 - 128 - 128 < 128
  · rw [dif_pos h6]
    refine piece_at q b k v 6 768 (by decide) _ p ⟨m.val - 128 - 128 - 128 - 128 - 128 - 128, h6⟩ m ?_
    show m.val = 768 + (m.val - 128 - 128 - 128 - 128 - 128 - 128); omega
  rw [dif_neg h6]
  refine piece_at q b k v 7 896 (by decide) _ p ⟨m.val - 128 - 128 - 128 - 128 - 128 - 128 - 128, by omega⟩ m ?_
  show m.val = 896 + (m.val - 128 - 128 - 128 - 128 - 128 - 128 - 128); omega

end Cert.KernelIdeal.Hand

end
-- ==== Proof.KernelIdeal.Result.lean ====
/-
  What the launch leaves, at an index: when the devices' inputs are the four quarters of the problem's arrays, every device's
  result is the problem's.
-/
module

public import proofs.«01_k».proof.Proof.KernelIdeal.Heads

@[expose] public section

set_option maxRecDepth 16384

noncomputable section

namespace Cert.KernelIdeal.Hand

open Cert.KernelIdeal Cert.KernelIdeal.Gen Cert.Attn
open Idealize.ShloMosaic

/-- Head `h` of device `c` among the 32. -/
def head (c : Fin 4) (h : Fin 8) : Fin 32 := ⟨8 * c.val + h.val, by omega⟩

/-- A device's inputs are its quarter of the arrays: all activations, its columns of the query weights, its eight heads' keys
    and values, its rows of the output weights. -/
structure Fits (A : Arrays) (c : Fin 4) (I : Ins Ideal) : Prop where
  x : ∀ i m, I.x (ix2 i m) = A.x i m
  wq : ∀ m n, I.wq (ix2 m n) = A.wq m (quarter c n)
  kt : ∀ h d j, I.kt (ix3 h d j) = A.k j (head c h) d
  v : ∀ h j d, I.v (ix3 h j d) = A.v j (head c h) d
  wo : ∀ m n, I.wo (ix2 m n) = A.wo (quarter c m) n

/-- Adding the bias is the mask, and the scale taken into the queries is the scale of the product. -/
theorem masked (q k : Fin 128 → EReal) (i j : ℕ) :
    (∑ d, q d * scale * k d) + (if kept i j then (0 : EReal) else ⊥) = if kept i j then (∑ d, q d * k d) * scale else ⊥ := by
  split
  · rw [add_zero, ← sum_mul_const _ _ scale_nonneg scale_ne_top]
    exact Finset.sum_congr rfl fun d _ => by rw [mul_assoc, mul_comm scale, ← mul_assoc]
  · exact EReal.add_bot _

/-- One device's part of 256 rows is its part of the problem's result. -/
theorem part_at {A : Arrays} {c : Fin 4} {I : Ins Ideal} (H : Fits A c I) (r : Fin 4) (p : Fin 256) (n : Fin 1024) :
    (part I r : FVec Ideal S256x1024 .f32) (ix2 p n) = Attn.part A c ⟨256 * r.val + p.val, by omega⟩ n := by
  unfold part Attn.part
  rw [chunk_at]
  refine Finset.sum_congr rfl fun m _ => ?_
  rw [H.wo m n]
  refine congrArg (· * A.wo (quarter c m) n) ?_
  have hm := m.isLt
  have eh : headOf (quarter c m) = head c ⟨m.val / 128, by omega⟩ := Fin.ext (by simp only [headOf, quarter, head]; omega)
  have el : laneOf (quarter c m) = ⟨m.val % 128, by omega⟩ := Fin.ext (by simp only [laneOf, quarter]; omega)
  have ec : ∀ d : Fin 128, col (head c ⟨m.val / 128, by omega⟩) d = quarter c ⟨128 * (m.val / 128) + d.val, by omega⟩ := fun d =>
    Fin.ext (by simp only [col, head, quarter]; omega)
  unfold ctxRow headRow ctx
  rw [eh, el]
  refine Finset.sum_congr rfl fun j _ => ?_
  beta_reduce
  rw [vHead_at, H.v]
  refine congrArg (· * A.v j _ _) (congrArg (fun s => weight s j) (funext fun j => ?_))
  unfold score query
  simp only [queries_at, rowsOf_at, ktHead_at, H.kt, bias_at, H.x, H.wq, ec]
  exact masked _ _ _ _

/-- A sum over the four devices, taken from any of them onwards. -/
theorem sum_from (f : Fin 4 → EReal) (c : Fin 4) : f c + f (pv 0 c) + f (pv 1 c) + f (pv 2 c) = ∑ d, f d := by
  rw [Fin.sum_univ_four]
  match c with
  | 0 => show f 0 + f 3 + f 2 + f 1 = _; ac_rfl
  | 1 => show f 1 + f 0 + f 3 + f 2 = _; ac_rfl
  | 2 => show f 2 + f 1 + f 0 + f 3 = _; ac_rfl
  | 3 => show f 3 + f 2 + f 1 + f 0 = _; ac_rfl

/-- The rows a device sums are the result's. -/
theorem total_at {A : Arrays} {I : Dev nD → Ins Ideal} (H : ∀ c, Fits A c (I c)) (c : Dev nD) (p : Fin 256) (n : Fin 1024) :
    (total I c : FVec Ideal S256x1024 .f32) (ix2 p n) = result A ⟨256 * c.val + p.val, by have : c.val < 4 := c.isLt; omega⟩ n := by
  unfold total sent; pointwise
  rw [part_at (H _), part_at (H _), part_at (H _), part_at (H _), result_eq_parts]
  exact sum_from (fun d => Attn.part A d _ n) c

/-- Every device writes the whole result. -/
theorem outAt_at {A : Arrays} {I : Dev nD → Ins Ideal} (H : ∀ c, Fits A c (I c)) (c : Dev nD) (i n : Fin 1024) :
    outAt I c (ix2 i n) = result A i n := by
  have hr : outRows I c = fun r => (total I r : FVec Ideal S256x1024 .f32) := by
    funext r
    unfold outRows totalSent
    split
    · rename_i h; rw [h]
    · rfl
  unfold outAt
  rw [hr]
  have hp : placeOf (ix2 i n) = ix2 (n0 := 256) (n1 := 1024) ⟨i.val % 256, Nat.mod_lt _ (by decide)⟩ n := by
    funext a
    match a with
    | ⟨0, _⟩ => rfl
    | ⟨1, _⟩ => rfl
  rw [hp]
  refine (total_at H _ _ _).trans (congrArg (fun i => result A i n) (Fin.ext ?_))
  show 256 * (i.val / 256) + i.val % 256 = i.val
  omega

end Cert.KernelIdeal.Hand

end
-- ==== Proof.KernelIdeal.HostIn.lean ====
/-
  What a device's launch reads, from the arguments: the activations without the batch axis, and its eight heads of the keys
  and values, which the program cuts out at eight times the device's number and transposes.
-/
module

public import proofs.«01_k».proof.Proof.KernelIdeal.Region
public import proofs.«01_k».proof.Proof.KernelIdeal.Result
public import Idealize.ShloMosaic.Lib.StableHlo.ReadAt
public import Idealize.ShloMosaic.Lib.DynamicIndex

@[expose] public section

set_option maxRecDepth 16384

noncomputable section

namespace Cert.KernelIdeal.Hand

open Cert.KernelIdeal Cert.KernelIdeal.Gen Cert.Attn
open Idealize.ShloMosaic Idealize.ShloMosaic.TcCoe

variable (m : (ℓ : Loc nD τ sig) → Buf (Elt Ideal) ℓ)

/-- The activations. -/
theorem acts_at (c : Dev nD) (i k : Fin 1024) :
    (V1 m c main_v5 : Vec Ideal S1024x1024 .bf16) (ix2 i k) = (m ((c.tc : Thread nD τ).loc main_arg0) : Vec Ideal S1x1024x1024 .bf16) (ix3 0 i k) := by
  unfold V1
  after_reads_at

/-- The first of a device's eight heads, as the program computes it: a word that wraps below zero, and never does. -/
theorem start_word (c : Dev nD) :
    BitVec.toInt (Scalar.select (IntOp.cmpi .slt (IntOp.muli (IntOp.remui .host (IntOp.divui .host (Dev.word c) 1#32) 4#32) 8#32) 0#32)
      (IntOp.addi (IntOp.muli (IntOp.remui .host (IntOp.divui .host (Dev.word c) 1#32) 4#32) 8#32) 32#32)
      (IntOp.muli (IntOp.remui .host (IntOp.divui .host (Dev.word c) 1#32) 4#32) 8#32)) = ((8 * c.val : ℕ) : Int) := by
  revert c; decide +kernel

/-- Where an element of the cut lies in the whole: all rows, head `h` of device `c`'s eight. -/
theorem cut_idx (c : Dev nD) (start : Fin 3 → Int) (h0 : start 0 = 0) (h1 : start 1 = ((8 * c.val : ℕ) : Int)) (h2 : start 2 = 0)
    (h : Fin 8) (j : Fin 1024) (d : Fin 128) (hr) (b0 b1 b2) :
    (ix4 0 ⟨Host.clampedStart S1024x32x128 S1024x8x128 hr start 0 + j.val, b0⟩ ⟨Host.clampedStart S1024x32x128 S1024x8x128 hr start 1 + h.val, b1⟩
      ⟨Host.clampedStart S1024x32x128 S1024x8x128 hr start 2 + d.val, b2⟩ : S1x1024x32x128.Idx) = ix4 0 j (head c h) d := by
  have hc : c.val < 4 := c.isLt
  have e0 := Host.clampedStart_of_le (s := S1024x32x128) (t := S1024x8x128) hr start 0 0 h0 (by show 0 + 1024 ≤ 1024; omega)
  have e1 := Host.clampedStart_of_le (s := S1024x32x128) (t := S1024x8x128) hr start 1 (8 * c.val) h1 (by show 8 * c.val + 8 ≤ 32; omega)
  have e2 := Host.clampedStart_of_le (s := S1024x32x128) (t := S1024x8x128) hr start 2 0 h2 (by show 0 + 128 ≤ 128; omega)
  funext a
  refine Fin.ext ?_
  match a with
  | ⟨0, _⟩ => rfl
  | ⟨1, _⟩ => show Host.clampedStart _ _ hr start 0 + j.val = j.val; omega
  | ⟨2, _⟩ => show Host.clampedStart _ _ hr start 1 + h.val = 8 * c.val + h.val; omega
  | ⟨3, _⟩ => show Host.clampedStart _ _ hr start 2 + d.val = d.val; omega

/-- The keys. -/
theorem keys_at (c : Dev nD) (h : Fin 8) (d : Fin 128) (j : Fin 1024) :
    (V1 m c main_v18 : Vec Ideal S8x128x1024 .bf16) (ix3 h d j)
      = (m ((c.tc : Thread nD τ).loc main_arg2) : Vec Ideal S1x1024x32x128 .bf16) (ix4 0 j (head c h) d) := by
  unfold V1
  after_reads_at
  refine congrArg (m ((c.tc : Thread nD τ).loc main_arg2)) (cut_idx c _ ?_ ?_ ?_ h j d _ _ _ _)
  · show BitVec.toInt ((StableHlo.upto (hostOps0 c) (V0 m c) 17 (Proc.tc.devRef main_c_4) : Vec Ideal S_ .i32) (Shape.Idx.first h_S_)) = _
    after_reads_simp
    rfl
  · show BitVec.toInt ((StableHlo.upto (hostOps0 c) (V0 m c) 17 (Proc.tc.devRef main_v10) : Vec Ideal S_ .i32) (Shape.Idx.first h_S_)) = _
    after_reads_simp
    exact start_word c
  · show BitVec.toInt ((StableHlo.upto (hostOps0 c) (V0 m c) 17 (Proc.tc.devRef main_c_5) : Vec Ideal S_ .i32) (Shape.Idx.first h_S_)) = _
    after_reads_simp
    rfl

/-- The values. -/
theorem vals_at (c : Dev nD) (h : Fin 8) (j : Fin 1024) (d : Fin 128) :
    (V1 m c main_v19 : Vec Ideal S8x1024x128 .bf16) (ix3 h j d)
      = (m ((c.tc : Thread nD τ).loc main_arg3) : Vec Ideal S1x1024x32x128 .bf16) (ix4 0 j (head c h) d) := by
  unfold V1
  after_reads_at
  refine congrArg (m ((c.tc : Thread nD τ).loc main_arg3)) (cut_idx c _ ?_ ?_ ?_ h j d _ _ _ _)
  · show BitVec.toInt ((StableHlo.upto (hostOps0 c) (V0 m c) 28 (Proc.tc.devRef main_c_9) : Vec Ideal S_ .i32) (Shape.Idx.first h_S_)) = _
    after_reads_simp
    rfl
  · show BitVec.toInt ((StableHlo.upto (hostOps0 c) (V0 m c) 28 (Proc.tc.devRef main_v16) : Vec Ideal S_ .i32) (Shape.Idx.first h_S_)) = _
    after_reads_simp
    exact start_word c
  · show BitVec.toInt ((StableHlo.upto (hostOps0 c) (V0 m c) 28 (Proc.tc.devRef main_c_10) : Vec Ideal S_ .i32) (Shape.Idx.first h_S_)) = _
    after_reads_simp
    rfl

end Cert.KernelIdeal.Hand

end
-- ==== Proof.Reference.lean ====
/-
  The reference's result, cut into stages, and each stage read at an index over the extended reals.
-/
module

public import proofs.«01_k».proof.Proof.Gen.ReferenceIdeal.Run
public import proofs.«01_k».proof.Proof.Consts
public import Idealize.ShloMosaic.Lib.Pointwise
public import Idealize.ShloMosaic.Lib.Routing.OpsOrder

@[expose] public section

set_option maxRecDepth 16384

noncomputable section

namespace Cert.ReferenceIdeal.Hand

open Cert.ReferenceIdeal Cert.ReferenceIdeal.Gen Cert.Attn
open Idealize.ShloMosaic Idealize.ShloMosaic.TcCoe

/-! ## The stages -/

/-- Each position's block of 64. -/
def blocks : Vec Ideal S1024 .i32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The row's block at every position, and the column's as one row. -/
def rowBlocks : Vec Ideal S1024x1024 .i32 :=
  broadcastInDim S1024x1024 ![0, 1] bcast_S1024x1_S1024x1024_0_1 (broadcastInDim S1024x1 ![0] bcast_S1024_S1024x1_0 blocks)
def colRow : Vec Ideal S1x1024 .i32 := broadcastInDim S1x1024 ![1] bcast_S1024_S1x1024_1 blocks
def colBlocks : Vec Ideal S1024x1024 .i32 := broadcastInDim S1024x1024 ![0, 1] bcast_S1x1024_S1024x1024_0_1 colRow

/-- The divisor three, and the remainders of the blocks' sums by it. -/
def three : Vec Ideal S_ .i32 :=
  select (cmpi .eq (id (constantI S_ 32 3#32)) (constantI S_ 32 0#32)) (constantI S_ 32 1#32) (id (constantI S_ 32 3#32))
def rems : Vec Ideal S1024x1024 .i32 :=
  Host.remsi (addi rowBlocks colBlocks) (broadcastInDim S1024x1024 ![] bcast_S_S1024x1024 three)
def zeros : Vec Ideal S1024x1024 .i32 := broadcastInDim S1024x1024 ![] bcast_S_S1024x1024 (constantI S_ 32 0#32)

/-- The mask. -/
def mask : Vec Ideal S1024x1024 .i1 :=
  ori
    (ori (cmpi .eq rowBlocks colBlocks)
      (broadcastInDim S1024x1024 ![0, 1] bcast_S1x1024_S1024x1024_0_1
        (cmpi .eq colRow (broadcastInDim S1x1024 ![] bcast_S_S1x1024 (constantI S_ 32 0#32)))))
    (cmpi .eq
      (select (andi (cmpi .ne (cmpi .slt rems zeros) (broadcastInDim S1024x1024 ![] bcast_S_S1024x1024 (cmpi .slt three (constantI S_ 32 0#32))))
          (cmpi .ne rems zeros))
        (addi rems (broadcastInDim S1024x1024 ![] bcast_S_S1024x1024 three)) rems) zeros)

/-- The rows the mask leaves anything of. -/
def rowKeep : Vec Ideal S1x1x1024x1 .i1 :=
  broadcastInDim S1x1x1024x1 ![2] bcast_S1024_S1x1x1024x1_2 (Host.reduce IntOp.ori mask (constantI S_ 1 0#1) reducesTo_S1024x1024_S1024_d1 h_S_)

/-- The masked scores of every head. -/
def scores (x : Vec Ideal S1x1024x1024 .bf16) (wq : Vec Ideal S1024x4096 .bf16) (k : Vec Ideal S1x1024x32x128 .bf16) :
    FVec Ideal S1x32x1024x1024 .f32 :=
  select (broadcastInDim S1x32x1024x1024 ![0, 1, 2, 3] bcast_S1x1x1024x1024_S1x32x1024x1024_0_1_2_3
      (broadcastInDim S1x1x1024x1024 ![2, 3] bcast_S1024x1024_S1x1x1024x1024_2_3 mask))
    (mulf (Host.dotGeneral dot_S1x1024x32x128_S1x1024x32x128_S1x32x1024x1024_3_3_1_1_02_02 none
        (shapeCast S1x1024x32x128 (Host.dotGeneral dot_S1x1024x1024_S1024x4096_S1x1024x4096_2_0_01_1_n_n none (extf .f32 (x : FVec Ideal S1x1024x1024 .bf16) bitsLt_bf16_f32)
          (extf .f32 (wq : FVec Ideal S1024x4096 .bf16) bitsLt_bf16_f32) : FVec Ideal S1x1024x4096 .f32) shapeCasts_S1x1024x4096_S1x1024x32x128)
        (extf .f32 (k : FVec Ideal S1x1024x32x128 .bf16) bitsLt_bf16_f32))
      (broadcastInDim S1x32x1024x1024 ![] bcast_S_S1x32x1024x1024 (constant S_ .f32 0x3DB504F3#32)))
    (broadcastInDim S1x32x1024x1024 ![] bcast_S_S1x32x1024x1024 (id (constant S_ .f32 0xFF800000#32)))

/-- The exponentials of the scores less their row's maximum. -/
def exps (s : FVec Ideal S1x32x1024x1024 .f32) : FVec Ideal S1x32x1024x1024 .f32 :=
  Host.exp (subf s (broadcastInDim S1x32x1024x1024 ![0, 1, 2, 3] bcast_S1x32x1024x1_S1x32x1024x1024_0_1_2_3
    (broadcastInDim S1x32x1024x1 ![0, 1, 2] bcast_S1x32x1024_S1x32x1024x1_0_1_2
      (Host.reduce FloatOps.maximumf s (constant S_ .f32 0xFF800000#32) reducesTo_S1x32x1024x1024_S1x32x1024_d3 h_S_ : FVec Ideal S1x32x1024 .f32))))

/-- The weights. -/
def weights (e : FVec Ideal S1x32x1024x1024 .f32) : FVec Ideal S1x32x1024x1024 .f32 :=
  select (broadcastInDim S1x32x1024x1024 ![0, 1, 2, 3] bcast_S1x1x1024x1_S1x32x1024x1024_0_1_2_3 rowKeep)
    (Host.divf e (broadcastInDim S1x32x1024x1024 ![0, 1, 2, 3] bcast_S1x32x1024x1_S1x32x1024x1024_0_1_2_3
      (select (broadcastInDim S1x32x1024x1 ![0, 1, 2, 3] bcast_S1x1x1024x1_S1x32x1024x1_0_1_2_3 rowKeep)
        (broadcastInDim S1x32x1024x1 ![0, 1, 2] bcast_S1x32x1024_S1x32x1024x1_0_1_2
          (Host.reduceAdd e (constant S_ .f32 0x00000000#32) reducesTo_S1x32x1024x1024_S1x32x1024_d3 h_S_ : FVec Ideal S1x32x1024 .f32))
        (broadcastInDim S1x32x1024x1 ![] bcast_S_S1x32x1024x1 (id (constant S_ .f32 0x3F800000#32))))))
    (broadcastInDim S1x32x1024x1024 ![] bcast_S_S1x32x1024x1024 (id (constant S_ .f32 0x00000000#32)))

/-- The result: the contexts of all heads side by side, times the output weights. -/
def out (x : Vec Ideal S1x1024x1024 .bf16) (wq : Vec Ideal S1024x4096 .bf16) (k v : Vec Ideal S1x1024x32x128 .bf16) (wo : Vec Ideal S4096x1024 .bf16) :
    FVec Ideal S1x1024x1024 .f32 :=
  Host.dotGeneral dot_S1x1024x4096_S4096x1024_S1x1024x1024_2_0_01_1_n_n none
    (shapeCast S1x1024x4096 (transpose S1x1024x32x128 [0, 3, 1, 2]
      (Host.dotGeneral dot_S1x1024x32x128_S1x32x1024x1024_S1x32x128x1024_1_3_3_2_02_01 none (extf .f32 (v : FVec Ideal S1x1024x32x128 .bf16) bitsLt_bf16_f32)
        (weights (exps (scores x wq k))) : FVec Ideal S1x32x128x1024 .f32) transposes_S1x32x128x1024_S1x1024x32x128_0_3_1_2) shapeCasts_S1x1024x32x128_S1x1024x4096)
    (extf .f32 (wo : FVec Ideal S4096x1024 .bf16) bitsLt_bf16_f32)

/-- The printed result is the last stage. -/
theorem res_eq (m : (ℓ : Loc nD τ sig) → Buf (Elt Ideal) ℓ) (c : Dev nD) :
    Value.res_main_v49 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v49
  rfl

/-! ## At an index -/

/-- The printed floor division by 64, on the words below 1024. -/
theorem block_word : ∀ n : Fin 1024,
    Scalar.select
      (IntOp.andi
        (IntOp.cmpi CmpIPredicate.ne
          (if BitVec.ofNat 32 n.val = 0 then (0 : BitVec 32) else if (BitVec.ofNat 32 n.val).msb = true then -1 else 1)
          (if 64#32 = 0 then (0 : BitVec 32) else if (64#32).msb = true then -1 else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32)
    = BitVec.ofNat 32 (n.val / 64) := by decide +kernel

/-- The remainder by three that the test reads, of two blocks' numbers. -/
def rem3 (a b : ℕ) : BitVec 32 :=
  IntOp.remsi .host (IntOp.addi (BitVec.ofNat 32 a) (BitVec.ofNat 32 b)) (Scalar.select (IntOp.cmpi .eq 3#32 0#32) 1#32 3#32)

/-- The printed test, on the blocks' numbers. -/
theorem keep_word : ∀ a b : Fin 16,
    IntOp.ori
      (IntOp.ori (IntOp.cmpi .eq (BitVec.ofNat 32 a.val) (BitVec.ofNat 32 b.val)) (IntOp.cmpi .eq (BitVec.ofNat 32 b.val) 0#32))
      (IntOp.cmpi .eq
        (Scalar.select
          (IntOp.andi
            (IntOp.cmpi .ne (IntOp.cmpi .slt (rem3 a.val b.val) 0#32) (IntOp.cmpi .slt (Scalar.select (IntOp.cmpi .eq 3#32 0#32) 1#32 3#32) 0#32))
            (IntOp.cmpi .ne (rem3 a.val b.val) 0#32))
          (IntOp.addi (rem3 a.val b.val) (Scalar.select (IntOp.cmpi .eq 3#32 0#32) 1#32 3#32)) (rem3 a.val b.val))
        0#32)
    = BitVec.ofBool (decide ((a.val = b.val ∨ b.val = 0) ∨ (a.val + b.val) % 3 = 0)) := by decide +kernel

/-- A position's block. -/
theorem blocks_at (i : Fin 1024) : blocks (ix1 i) = BitVec.ofNat 32 (i.val / 64) := by
  unfold blocks; pointwise
  exact block_word i

/-- The mask's bit at a position says whether it is kept. -/
theorem mask_at (i j : Fin 1024) : mask (ix2 i j) = BitVec.ofBool (decide (kept i j)) := by
  unfold mask rems rowBlocks colBlocks colRow zeros three; pointwise [blocks_at]
  exact keep_word ⟨i.val / 64, by omega⟩ ⟨j.val / 64, by omega⟩

/-- No row is left empty: the first column is always kept. -/
theorem rowKeep_at (i : Fin 1024) : rowKeep (ix4 0 0 i 0) = 1#1 := by
  unfold rowKeep; pointwise [mask_at]
  rw [Routing.fold_ori]
  refine ⟨0, Finset.mem_univ _, ?_⟩
  rw [decide_eq_true (show kept i.val (0 : Fin 1024).val from kept_first i.val)]
  rfl

/-- The masked scores. -/
theorem scores_at (x wq k) (g : Fin 32) (i j : Fin 1024) :
    scores x wq k (ix4 0 g i j) = if kept i j then (∑ d : Fin 128, (∑ m : Fin 1024, (x (ix3 0 i m) : EReal) * wq (ix2 m (col g d))) * k (ix4 0 j g d)) * scale else ⊥ := by
  unfold scores scale; pointwise [mask_at]
  refine if_congr Iff.rfl ?_ ofBits_neg_inf
  have e : ∀ d : Fin 128, (⟨g.val * 128 + d.val, by omega⟩ : Fin 4096) = col g d := fun d => Fin.ext (by simp only [col]; omega)
  simp only [e]

/-- The exponentials. -/
theorem exps_at (s : FVec Ideal S1x32x1024x1024 .f32) (g : Fin 32) (i j : Fin 1024) :
    exps s (ix4 0 g i j) = Ideal.exp (s (ix4 0 g i j) - rowMax fun j => s (ix4 0 g i j)) := by
  unfold exps rowMax; pointwise
  rw [ofBits_neg_inf]

/-- The weights: no row is empty, so each is an exponential over its row's sum. -/
theorem weights_at (e : FVec Ideal S1x32x1024x1024 .f32) (g : Fin 32) (i j : Fin 1024) :
    weights e (ix4 0 g i j) = Ideal.div (e (ix4 0 g i j)) (∑ j : Fin 1024, e (ix4 0 g i j)) := by
  unfold weights; pointwise [rowKeep_at]

/-- The result as sums. -/
theorem out_sums (x wq k v wo) (i n : Fin 1024) :
    out x wq k v wo (ix3 0 i n) = ∑ p : Fin 4096, (∑ j : Fin 1024, (weights (exps (scores x wq k)) (ix4 0 (headOf p) i j) : EReal) * v (ix4 0 j (headOf p) (laneOf p))) * wo (ix2 p n) := by
  unfold out; pointwise
  refine Finset.sum_congr rfl fun p _ => congrArg (· * wo (ix2 p n)) (Finset.sum_congr rfl fun j _ => mul_comm _ _)

/-- The problem's arrays, of the five arguments. -/
def arrays (x : Vec Ideal S1x1024x1024 .bf16) (wq : Vec Ideal S1024x4096 .bf16) (k v : Vec Ideal S1x1024x32x128 .bf16) (wo : Vec Ideal S4096x1024 .bf16) :
    Arrays where
  x i m := x (ix3 0 i m)
  wq m n := wq (ix2 m n)
  k j g d := k (ix4 0 j g d)
  v j g d := v (ix4 0 j g d)
  wo p n := wo (ix2 p n)

/-- The reference computes the problem's result. -/
theorem out_at (x wq k v wo) (i n : Fin 1024) : out x wq k v wo (ix3 0 i n) = result (arrays x wq k v wo) i n := by
  rw [out_sums]
  unfold result ctx weight
  refine Finset.sum_congr rfl fun p _ => congrArg (· * wo (ix2 p n)) (Finset.sum_congr rfl fun j _ => ?_)
  have hs : (fun j => scores x wq k (ix4 0 (headOf p) i j)) = score (arrays x wq k v wo) (headOf p) i := funext fun j => scores_at x wq k (headOf p) i j
  rw [weights_at]
  simp only [exps_at, hs]
  rw [← hs]
  rfl

end Cert.ReferenceIdeal.Hand

end
-- ==== Proof.Algebraic.lean ====
/-
  The kernel and the reference compute the same result over the extended reals.

  Every device ends with the problem's result (KernelIdeal/Result.lean) of the arrays its arguments are parts of, and the
  reference with the same (Reference.lean).
-/
module

public import proofs.«01_k».proof.Defs
public import proofs.«01_k».proof.Proof.KernelIdeal.Launch
public import proofs.«01_k».proof.Proof.KernelIdeal.HostIn
public import proofs.«01_k».proof.Proof.Reference
public import Idealize.ShloMosaic.Lib.LayoutAt

@[expose] public section

set_option maxRecDepth 16384

noncomputable section

namespace Cert.Proof

open Idealize.ShloMosaic Idealize.ShloMosaic.TcCoe Idealize.SL.Sem
open Cert.Attn Cert.KernelIdeal.Hand

/-- Device `c`'s block of the query weights' columns. -/
theorem columns_at (c : Fin 4) (W : Vec Ideal ⟨2, ![1024, 4096]⟩ .bf16) (h) (m n : Fin 1024) :
    Layout.block ⟨2, ![1024, 1024]⟩ ⟨2, ![1024, 4096]⟩ 1 4 c W h (ix2 m n) = W (ix2 m (quarter c n)) := by
  rw [Layout.block_apply]
  refine congrArg W (funext fun a => Fin.ext ?_)
  match a with
  | ⟨0, _⟩ => rfl
  | ⟨1, _⟩ => show c.val * 1024 + n.val = 1024 * c.val + n.val; omega

/-- Device `c`'s block of the output weights' rows. -/
theorem rows_at (c : Fin 4) (W : Vec Ideal ⟨2, ![4096, 1024]⟩ .bf16) (h) (m n : Fin 1024) :
    Layout.block ⟨2, ![1024, 1024]⟩ ⟨2, ![4096, 1024]⟩ 0 4 c W h (ix2 m n) = W (ix2 (quarter c m) n) := by
  rw [Layout.block_apply]
  refine congrArg W (funext fun a => Fin.ext ?_)
  match a with
  | ⟨0, _⟩ => show c.val * 1024 + m.val = 1024 * c.val + m.val; omega
  | ⟨1, _⟩ => rfl

/-- What a device returns is what its launch wrote, with the batch axis put back. -/
theorem result_at (m : (ℓ : Loc Cert.KernelIdeal.nD Cert.KernelIdeal.τ Cert.KernelIdeal.sig) → Buf (Elt Ideal) ℓ) (c : Dev Cert.KernelIdeal.nD) (p n : Fin 1024) :
    (Cert.KernelIdeal.Gen.V3 m (outs m) c Cert.KernelIdeal.main_v21 : Vec Ideal Cert.KernelIdeal.S1x1024x1024 .f32) (ix3 0 p n)
      = (outs m 2 Cert.KernelIdeal.main_v20 c : Vec Ideal Cert.KernelIdeal.S1024x1024 .f32) (ix2 p n) := by
  unfold Cert.KernelIdeal.Gen.V3
  after_reads_at
  rfl

/-- The value claim: from arguments that are parts of the same arrays, every device's result is the reference's. -/
theorem algebraic : Cert.algebraic_KernelIdeal_ReferenceIdeal := by
  intro m g m' g' _ hargs
  refine ⟨Cert.ReferenceIdeal.Value.res_main_v49 m' 0, ?_, ?_⟩
  · refine (θ_run _ _ _).mono (fun r h c => ⟨?_, (h.1 c).2⟩) (Cert.KernelIdeal.Hand.run (F := Ideal) m g)
    have H : ∀ c, Fits (Cert.ReferenceIdeal.Hand.arrays (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1))
        (m' (((0 : Dev Cert.ReferenceIdeal.nD).tc : Thread Cert.ReferenceIdeal.nD Cert.ReferenceIdeal.τ).loc Cert.ReferenceIdeal.main_arg2))
        (m' (((0 : Dev Cert.ReferenceIdeal.nD).tc : Thread Cert.ReferenceIdeal.nD Cert.ReferenceIdeal.τ).loc Cert.ReferenceIdeal.main_arg3))
        (m' (((0 : Dev Cert.ReferenceIdeal.nD).tc : Thread Cert.ReferenceIdeal.nD Cert.ReferenceIdeal.τ).loc Cert.ReferenceIdeal.main_arg4))) c (ins m c) := fun c =>
      have hc := hargs c
      { x := fun i k => (acts_at m c i k).trans (congrFun hc.1 _)
        wq := fun k n => ((congrFun (Cert.KernelIdeal.Gen.V1_of m c Cert.KernelIdeal.main_arg1 (by decide)) _).trans (congrFun hc.2.1 _)).trans (columns_at c _ _ k n)
        kt := fun h d j => (keys_at m c h d j).trans (congrFun hc.2.2.1 _)
        v := fun h j d => (vals_at m c h j d).trans (congrFun hc.2.2.2.1 _)
        wo := fun k n => ((congrFun (Cert.KernelIdeal.Gen.V1_of m c Cert.KernelIdeal.main_arg4 (by decide)) _).trans (congrFun hc.2.2.2.2 _)).trans (rows_at c _ _ k n) }
    refine (h.1 c).1.trans ?_
    rw [Cert.ReferenceIdeal.Hand.res_eq]
    funext i
    obtain ⟨a, p, n, rfl⟩ : ∃ (a : Fin 1) (p n : Fin 1024), i = ix3 a p n := ⟨i 0, i 1, i 2, eq_ix3 i⟩
    obtain rfl : a = 0 := Subsingleton.elim _ _
    refine Eq.trans ?_ (Cert.ReferenceIdeal.Hand.out_at _ _ _ _ _ p n).symm
    refine Eq.trans ?_ (outAt_at H c p n)
    rw [← outs_v20 m c]
    exact result_at m c p n
  · exact (θ_run _ _ _).mono (fun r h => h 0) (Cert.ReferenceIdeal.Value.run (F := Ideal) m' g')

end Cert.Proof

end
-- ==== Proof.lean ====
/- The proof of the certificate's claims: the frames and the named constant (Proof/Frames.lean), and the value claim (Proof/Algebraic.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims, under the witnesses of the facts the programs state. -/
theorem claim : Cert.Claim :=
  ⟨Cert.Kernel.Gen.facts, Cert.KernelIdeal.Gen.facts, Cert.ReferenceIdeal.Gen.facts,
    frame_kernel, frame_ideal, frame_reference, preserves, algebraic⟩

end Cert.Proof

end
